-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S1x2048x768 : Shape := ⟨3, ![1, 2048, 768]⟩
abbrev S768x64 : Shape := ⟨2, ![768, 64]⟩
abbrev S64x768x512 : Shape := ⟨3, ![64, 768, 512]⟩
abbrev S64x512x768 : Shape := ⟨3, ![64, 512, 768]⟩
abbrev S2048x768 : Shape := ⟨2, ![2048, 768]⟩
abbrev S2048x1 : Shape := ⟨2, ![2048, 1]⟩
abbrev S1x64 : Shape := ⟨2, ![1, 64]⟩
abbrev S2048x64 : Shape := ⟨2, ![2048, 64]⟩
abbrev S2048 : Shape := ⟨1, ![2048]⟩
abbrev S64 : Shape := ⟨1, ![64]⟩
abbrev S64x64 : Shape := ⟨2, ![64, 64]⟩
abbrev S128x128 : Shape := ⟨2, ![128, 128]⟩
abbrev S128x64 : Shape := ⟨2, ![128, 64]⟩
abbrev S1x2048 : Shape := ⟨2, ![1, 2048]⟩
abbrev S2x768x512 : Shape := ⟨3, ![2, 768, 512]⟩
abbrev S2x512x768 : Shape := ⟨3, ![2, 512, 768]⟩
abbrev S512x1 : Shape := ⟨2, ![512, 1]⟩
abbrev S512x768 : Shape := ⟨2, ![512, 768]⟩
abbrev S4736x768 : Shape := ⟨2, ![4736, 768]⟩
abbrev S128x2048 : Shape := ⟨2, ![128, 2048]⟩
abbrev S1 : Shape := ⟨1, ![1]⟩
abbrev S128x768 : Shape := ⟨2, ![128, 768]⟩
abbrev S1x768x512 : Shape := ⟨3, ![1, 768, 512]⟩
abbrev S768x512 : Shape := ⟨2, ![768, 512]⟩
abbrev S128x512 : Shape := ⟨2, ![128, 512]⟩
abbrev S1x512x768 : Shape := ⟨3, ![1, 512, 768]⟩
abbrev S512x4736 : Shape := ⟨2, ![512, 4736]⟩

abbrev nBuf : Space → Nat
  | .hbm => 15
  | .vmem => 26
  | .smem => 2
  | _ => 0

abbrev bufTy : (tb : Table) → Fin (tcTables nBuf tb) → BufTy
  | .hbm, ⟨0, _⟩ => ⟨S1x2048x768, .f32⟩
  | .hbm, ⟨1, _⟩ => ⟨S768x64, .f32⟩
  | .hbm, ⟨2, _⟩ => ⟨S64x768x512, .f32⟩
  | .hbm, ⟨3, _⟩ => ⟨S64x512x768, .f32⟩
  | .hbm, ⟨4, _⟩ => ⟨S2048x768, .f32⟩
  | .hbm, ⟨5, _⟩ => ⟨S2048x1, .f32⟩
  | .hbm, ⟨6, _⟩ => ⟨S2048x1, .f32⟩
  | .hbm, ⟨7, _⟩ => ⟨S2048x1, .i32⟩
  | .hbm, ⟨8, _⟩ => ⟨S2048x1, .i32⟩
  | .hbm, ⟨9, _⟩ => ⟨S1x64, .i32⟩
  | .hbm, ⟨10, _⟩ => ⟨S1x64, .i32⟩
  | .hbm, ⟨11, _⟩ => ⟨S1x2048, .i32⟩
  | .hbm, ⟨12, _⟩ => ⟨S1x2048, .i32⟩
  | .hbm, ⟨13, _⟩ => ⟨S2048x768, .f32⟩
  | .hbm, ⟨14, _⟩ => ⟨S1x2048x768, .f32⟩
  | .local _ .vmem, ⟨0, _⟩ => ⟨S2048x768, .f32⟩
  | .local _ .vmem, ⟨1, _⟩ => ⟨S768x64, .f32⟩
  | .local _ .vmem, ⟨2, _⟩ => ⟨S2048x1, .f32⟩
  | .local _ .vmem, ⟨3, _⟩ => ⟨S2048x1, .f32⟩
  | .local _ .vmem, ⟨4, _⟩ => ⟨S2048x1, .i32⟩
  | .local _ .vmem, ⟨5, _⟩ => ⟨S2048x1, .i32⟩
  | .local _ .vmem, ⟨6, _⟩ => ⟨S1x64, .i32⟩
  | .local _ .vmem, ⟨7, _⟩ => ⟨S1x64, .i32⟩
  | .local _ .vmem, ⟨8, _⟩ => ⟨S1x2048, .i32⟩
  | .local _ .vmem, ⟨9, _⟩ => ⟨S1x2048, .i32⟩
  | .local _ .vmem, ⟨10, _⟩ => ⟨S2048x768, .f32⟩
  | .local _ .vmem, ⟨11, _⟩ => ⟨S2x768x512, .f32⟩
  | .local _ .vmem, ⟨12, _⟩ => ⟨S2x768x512, .f32⟩
  | .local _ .vmem, ⟨13, _⟩ => ⟨S2x512x768, .f32⟩
  | .local _ .vmem, ⟨14, _⟩ => ⟨S2x512x768, .f32⟩
  | .local _ .vmem, ⟨15, _⟩ => ⟨S512x1, .i32⟩
  | .local _ .vmem, ⟨16, _⟩ => ⟨S512x1, .i32⟩
  | .local _ .vmem, ⟨17, _⟩ => ⟨S512x1, .i32⟩
  | .local _ .vmem, ⟨18, _⟩ => ⟨S512x1, .i32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x768, .f32⟩
  | .local _ .vmem, ⟨24, _⟩ => ⟨S512x768, .f32⟩
  | .local _ .vmem, ⟨25, _⟩ => ⟨S4736x768, .f32⟩
  | .local _ .smem, ⟨0, _⟩ => ⟨S64, .i32⟩
  | .local _ .smem, ⟨1, _⟩ => ⟨S64, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v2 : Ref sig .tc := ⟨.hbm, 11, rfl⟩
abbrev main_v3 : Ref sig .tc := ⟨.hbm, 12, rfl⟩
abbrev main_v6 : Ref sig .tc := ⟨.hbm, 13, rfl⟩
abbrev main_v7 : Ref sig .tc := ⟨.hbm, 14, rfl⟩
abbrev main_v4 : Ref sig .tc := ⟨.smem, 0, rfl⟩
abbrev main_v5 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![36], ![false]⟩

abbrev pre1 : Pipeline.Prefetch sig := ⟨2, ![main_v4.idx, main_v5.idx], fun | 0 => main_v4.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k1_cond2 (i : grid1.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k1_off1 (i : grid1.Coords) : Fin 1 → Nat :=
  let arg0 : BitVec 32 := BitVec.ofNat 32 (i 0).val
  let c2_i32 : BitVec 32 := 2#32
  let v14 : BitVec 32 := Scalar.muli arg0 c2_i32
  let c0_i32_7 : BitVec 32 := 0#32
  let v15 : BitVec 32 := Scalar.addi v14 c0_i32_7
  let v16 : Index := Scalar.indexCast v15
  ![v16.toNat]
@[reducible] def k1_t1_loop (v19 : BitVec 32) : Scf.Loop 32 :=
  let c0_i32_15 : BitVec 32 := 0#32
  let c128_i32 : BitVec 32 := 128#32
  let v20 : BitVec 32 := Scalar.addi v19 c128_i32
  let c1_i32 : BitVec 32 := 1#32
  let v21 : BitVec 32 := Scalar.subi v20 c1_i32
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c128_i32_8 : BitVec 32 := 128#32
  let c0_i32_11 : BitVec 32 := 0#32
  let v28 : BitVec 1 := Scalar.cmpi .sgt c128_i32_8 c0_i32_11
  let v29 : BitVec 32 := Scalar.extui v28
  let c0_i32_12 : BitVec 32 := 0#32
  let v30 : BitVec 1 := Scalar.cmpi .slt c128_i32_8 c0_i32_12
  let v31 : BitVec 32 := Scalar.extui v30
  let v32 : BitVec 32 := Scalar.subi v29 v31
  let v33 : BitVec 1 := Scalar.cmpi .ne v27 v32
  let v34 : BitVec 32 := Scalar.remsi v21 c128_i32_8
  let c0_i32_13 : BitVec 32 := 0#32
  let v35 : BitVec 1 := Scalar.cmpi .ne v34 c0_i32_13
  let v36 : BitVec 1 := Scalar.andi v33 v35
  let v22 : BitVec 32 := Scalar.divsi v21 c128_i32_8
  let c1_i32_14 : BitVec 32 := 1#32
  let v37 : BitVec 32 := Scalar.subi v22 c1_i32_14
  let v38 : BitVec 32 := Scalar.select v36 v37 v22
  let v39 : BitVec 32 := Scalar.subi v38 c0_i32_15
  let c1_i32_17 : BitVec 32 := 1#32
  let v41 : BitVec 32 := Scalar.divsi v39 c1_i32_17
  let v42 : BitVec 32 := Scalar.muli v41 c1_i32_17
  let v43 : BitVec 32 := Scalar.addi c0_i32_15 v42
  let c1_i32_18 : BitVec 32 := 1#32
  ⟨c0_i32_15, v43, c1_i32_18⟩

def k1_mult1 (v17 : BitVec 32) (v19 : BitVec 32) (k1_t1 : Fin (k1_t1_loop v19).trips) : BitVec 32 :=
  let c0_i32_15 : BitVec 32 := 0#32
  let c1_i32_18 : BitVec 32 := 1#32
  let arg14 : BitVec 32 := Scf.iv c0_i32_15 c1_i32_18 k1_t1
  let c128_i32_36 : BitVec 32 := 128#32
  let v78 : BitVec 32 := Scalar.muli arg14 c128_i32_36
  let v79 : BitVec 32 := Scalar.addi v17 v78
  v79
def k1_off2 (v17 : BitVec 32) (v19 : BitVec 32) (k1_t1 : Fin (k1_t1_loop v19).trips) : Fin 2 → Nat :=
  let c0_i32_15 : BitVec 32 := 0#32
  let c1_i32_18 : BitVec 32 := 1#32
  let arg14 : BitVec 32 := Scf.iv c0_i32_15 c1_i32_18 k1_t1
  let c128_i32_36 : BitVec 32 := 128#32
  let v78 : BitVec 32 := Scalar.muli arg14 c128_i32_36
  let v79 : BitVec 32 := Scalar.addi v17 v78
  let v80 : BitVec 32 := v79
  let v103 : Index := Scalar.indexCast v80
  let c0_48 : Index := 0#32
  ![v103.toNat, 0]
@[reducible] def k1_t2_loop (v19 : BitVec 32) : Scf.Loop 32 :=
  let c0_i32_15 : BitVec 32 := 0#32
  let c128_i32 : BitVec 32 := 128#32
  let v20 : BitVec 32 := Scalar.addi v19 c128_i32
  let c1_i32 : BitVec 32 := 1#32
  let v21 : BitVec 32 := Scalar.subi v20 c1_i32
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c128_i32_8 : BitVec 32 := 128#32
  let c0_i32_11 : BitVec 32 := 0#32
  let v28 : BitVec 1 := Scalar.cmpi .sgt c128_i32_8 c0_i32_11
  let v29 : BitVec 32 := Scalar.extui v28
  let c0_i32_12 : BitVec 32 := 0#32
  let v30 : BitVec 1 := Scalar.cmpi .slt c128_i32_8 c0_i32_12
  let v31 : BitVec 32 := Scalar.extui v30
  let v32 : BitVec 32 := Scalar.subi v29 v31
  let v33 : BitVec 1 := Scalar.cmpi .ne v27 v32
  let v34 : BitVec 32 := Scalar.remsi v21 c128_i32_8
  let c0_i32_13 : BitVec 32 := 0#32
  let v35 : BitVec 1 := Scalar.cmpi .ne v34 c0_i32_13
  let v36 : BitVec 1 := Scalar.andi v33 v35
  let v22 : BitVec 32 := Scalar.divsi v21 c128_i32_8
  let c1_i32_14 : BitVec 32 := 1#32
  let v37 : BitVec 32 := Scalar.subi v22 c1_i32_14
  let v38 : BitVec 32 := Scalar.select v36 v37 v22
  let v39 : BitVec 32 := Scalar.subi v38 c0_i32_15
  let c1_i32_17 : BitVec 32 := 1#32
  let v41 : BitVec 32 := Scalar.divsi v39 c1_i32_17
  let v42 : BitVec 32 := Scalar.muli v41 c1_i32_17
  let v43 : BitVec 32 := Scalar.addi c0_i32_15 v42
  let v40 : BitVec 32 := Scalar.addi c0_i32_15 v39
  let c1_i32_19 : BitVec 32 := 1#32
  ⟨v43, v40, c1_i32_19⟩
def k1_mult2 (v17 : BitVec 32) (v19 : BitVec 32) (k1_t2 : Fin (k1_t2_loop v19).trips) : BitVec 32 :=
  let c0_i32_15 : BitVec 32 := 0#32
  let c128_i32 : BitVec 32 := 128#32
  let v20 : BitVec 32 := Scalar.addi v19 c128_i32
  let c1_i32 : BitVec 32 := 1#32
  let v21 : BitVec 32 := Scalar.subi v20 c1_i32
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c128_i32_8 : BitVec 32 := 128#32
  let c0_i32_11 : BitVec 32 := 0#32
  let v28 : BitVec 1 := Scalar.cmpi .sgt c128_i32_8 c0_i32_11
  let v29 : BitVec 32 := Scalar.extui v28
  let c0_i32_12 : BitVec 32 := 0#32
  let v30 : BitVec 1 := Scalar.cmpi .slt c128_i32_8 c0_i32_12
  let v31 : BitVec 32 := Scalar.extui v30
  let v32 : BitVec 32 := Scalar.subi v29 v31
  let v33 : BitVec 1 := Scalar.cmpi .ne v27 v32
  let v34 : BitVec 32 := Scalar.remsi v21 c128_i32_8
  let c0_i32_13 : BitVec 32 := 0#32
  let v35 : BitVec 1 := Scalar.cmpi .ne v34 c0_i32_13
  let v36 : BitVec 1 := Scalar.andi v33 v35
  let v22 : BitVec 32 := Scalar.divsi v21 c128_i32_8
  let c1_i32_14 : BitVec 32 := 1#32
  let v37 : BitVec 32 := Scalar.subi v22 c1_i32_14
  let v38 : BitVec 32 := Scalar.select v36 v37 v22
  let v39 : BitVec 32 := Scalar.subi v38 c0_i32_15
  let c1_i32_17 : BitVec 32 := 1#32
  let v41 : BitVec 32 := Scalar.divsi v39 c1_i32_17
  let v42 : BitVec 32 := Scalar.muli v41 c1_i32_17
  let v43 : BitVec 32 := Scalar.addi c0_i32_15 v42
  let c1_i32_19 : BitVec 32 := 1#32
  let arg14 : BitVec 32 := Scf.iv v43 c1_i32_19 k1_t2
  let c128_i32_36 : BitVec 32 := 128#32
  let v78 : BitVec 32 := Scalar.muli arg14 c128_i32_36
  let v79 : BitVec 32 := Scalar.addi v17 v78
  v79
def k1_off3 (v17 : BitVec 32) (v19 : BitVec 32) (k1_t2 : Fin (k1_t2_loop v19).trips) : Fin 2 → Nat :=
  let c0_i32_15 : BitVec 32 := 0#32
  let c128_i32 : BitVec 32 := 128#32
  let v20 : BitVec 32 := Scalar.addi v19 c128_i32
  let c1_i32 : BitVec 32 := 1#32
  let v21 : BitVec 32 := Scalar.subi v20 c1_i32
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c128_i32_8 : BitVec 32 := 128#32
  let c0_i32_11 : BitVec 32 := 0#32
  let v28 : BitVec 1 := Scalar.cmpi .sgt c128_i32_8 c0_i32_11
  let v29 : BitVec 32 := Scalar.extui v28
  let c0_i32_12 : BitVec 32 := 0#32
  let v30 : BitVec 1 := Scalar.cmpi .slt c128_i32_8 c0_i32_12
  let v31 : BitVec 32 := Scalar.extui v30
  let v32 : BitVec 32 := Scalar.subi v29 v31
  let v33 : BitVec 1 := Scalar.cmpi .ne v27 v32
  let v34 : BitVec 32 := Scalar.remsi v21 c128_i32_8
  let c0_i32_13 : BitVec 32 := 0#32
  let v35 : BitVec 1 := Scalar.cmpi .ne v34 c0_i32_13
  let v36 : BitVec 1 := Scalar.andi v33 v35
  let v22 : BitVec 32 := Scalar.divsi v21 c128_i32_8
  let c1_i32_14 : BitVec 32 := 1#32
  let v37 : BitVec 32 := Scalar.subi v22 c1_i32_14
  let v38 : BitVec 32 := Scalar.select v36 v37 v22
  let v39 : BitVec 32 := Scalar.subi v38 c0_i32_15
  let c1_i32_17 : BitVec 32 := 1#32
  let v41 : BitVec 32 := Scalar.divsi v39 c1_i32_17
  let v42 : BitVec 32 := Scalar.muli v41 c1_i32_17
  let v43 : BitVec 32 := Scalar.addi c0_i32_15 v42
  let c1_i32_19 : BitVec 32 := 1#32
  let arg14 : BitVec 32 := Scf.iv v43 c1_i32_19 k1_t2
  let c128_i32_36 : BitVec 32 := 128#32
  let v78 : BitVec 32 := Scalar.muli arg14 c128_i32_36
  let v79 : BitVec 32 := Scalar.addi v17 v78
  let v80 : BitVec 32 := v79
  let v103 : Index := Scalar.indexCast v80
  let c0_48 : Index := 0#32
  ![v103.toNat, 0]

def k1_chk1 (i : grid1.Coords) (v17 : BitVec 32) (v19 : BitVec 32) : Prop :=
  (∀ (k1_h2 : k1_cond2 i = 1#1), (k1_t1_loop v19).OK) ∧
  (∀ k1_t1 : Fin (k1_t1_loop v19).trips, ∀ (k1_h2 : k1_cond2 i = 1#1), 8 ∣ (k1_mult1 v17 v19 k1_t1).toNat) ∧
  (∀ k1_t1 : Fin (k1_t1_loop v19).trips, ∀ (k1_h2 : k1_cond2 i = 1#1), ∀ a, (k1_off2 v17 v19 k1_t1) a + S128x768.size a ≤ S4736x768.size a) ∧
  (∀ (k1_h2 : k1_cond2 i = 1#1), (k1_t2_loop v19).OK) ∧
  (∀ k1_t2 : Fin (k1_t2_loop v19).trips, ∀ (k1_h2 : k1_cond2 i = 1#1), 8 ∣ (k1_mult2 v17 v19 k1_t2).toNat) ∧
  (∀ k1_t2 : Fin (k1_t2_loop v19).trips, ∀ (k1_h2 : k1_cond2 i = 1#1), ∀ a, (k1_off3 v17 v19 k1_t2) a + S128x768.size a ≤ S4736x768.size a)
theorem k1_t1_ok : ∀ (i : grid1.Coords) (v17 : BitVec 32) (v19 : BitVec 32) (k1_hw1 : k1_chk1 i v17 v19), ∀ (k1_h2 : k1_cond2 i = 1#1), (k1_t1_loop v19).OK := fun i v17 v19 k1_hw1 k1_h2 => k1_hw1.1 k1_h2
theorem k1_mult1_dvd : ∀ (i : grid1.Coords) (v17 : BitVec 32) (v19 : BitVec 32) (k1_hw1 : k1_chk1 i v17 v19) (k1_t1 : Fin (k1_t1_loop v19).trips), ∀ (k1_h2 : k1_cond2 i = 1#1), 8 ∣ (k1_mult1 v17 v19 k1_t1).toNat := fun i v17 v19 k1_hw1 k1_t1 k1_h2 => k1_hw1.2.1 k1_t1 k1_h2
theorem k1_off2_inb : ∀ (i : grid1.Coords) (v17 : BitVec 32) (v19 : BitVec 32) (k1_hw1 : k1_chk1 i v17 v19) (k1_t1 : Fin (k1_t1_loop v19).trips), ∀ (k1_h2 : k1_cond2 i = 1#1), ∀ a, (k1_off2 v17 v19 k1_t1) a + S128x768.size a ≤ S4736x768.size a := fun i v17 v19 k1_hw1 k1_t1 k1_h2 => k1_hw1.2.2.1 k1_t1 k1_h2
theorem k1_t2_ok : ∀ (i : grid1.Coords) (v17 : BitVec 32) (v19 : BitVec 32) (k1_hw1 : k1_chk1 i v17 v19), ∀ (k1_h2 : k1_cond2 i = 1#1), (k1_t2_loop v19).OK := fun i v17 v19 k1_hw1 k1_h2 => k1_hw1.2.2.2.1 k1_h2
theorem k1_mult2_dvd : ∀ (i : grid1.Coords) (v17 : BitVec 32) (v19 : BitVec 32) (k1_hw1 : k1_chk1 i v17 v19) (k1_t2 : Fin (k1_t2_loop v19).trips), ∀ (k1_h2 : k1_cond2 i = 1#1), 8 ∣ (k1_mult2 v17 v19 k1_t2).toNat := fun i v17 v19 k1_hw1 k1_t2 k1_h2 => k1_hw1.2.2.2.2.1 k1_t2 k1_h2
theorem k1_off3_inb : ∀ (i : grid1.Coords) (v17 : BitVec 32) (v19 : BitVec 32) (k1_hw1 : k1_chk1 i v17 v19) (k1_t2 : Fin (k1_t2_loop v19).trips), ∀ (k1_h2 : k1_cond2 i = 1#1), ∀ a, (k1_off3 v17 v19 k1_t2) a + S128x768.size a ≤ S4736x768.size a := fun i v17 v19 k1_hw1 k1_t2 k1_h2 => k1_hw1.2.2.2.2.2 k1_t2 k1_h2

def k1_off4 (i : grid1.Coords) : Fin 1 → Nat :=
  let arg0 : BitVec 32 := BitVec.ofNat 32 (i 0).val
  let c2_i32_20 : BitVec 32 := 2#32
  let v46 : BitVec 32 := Scalar.muli arg0 c2_i32_20
  let c1_i32_21 : BitVec 32 := 1#32
  let v47 : BitVec 32 := Scalar.addi v46 c1_i32_21
  let v48 : Index := Scalar.indexCast v47
  ![v48.toNat]
@[reducible] def k1_t3_loop (v51 : BitVec 32) : Scf.Loop 32 :=
  let c0_i32_31 : BitVec 32 := 0#32
  let c128_i32_22 : BitVec 32 := 128#32
  let v52 : BitVec 32 := Scalar.addi v51 c128_i32_22
  let c1_i32_23 : BitVec 32 := 1#32
  let v53 : BitVec 32 := Scalar.subi v52 c1_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c128_i32_24 : BitVec 32 := 128#32
  let c0_i32_27 : BitVec 32 := 0#32
  let v60 : BitVec 1 := Scalar.cmpi .sgt c128_i32_24 c0_i32_27
  let v61 : BitVec 32 := Scalar.extui v60
  let c0_i32_28 : BitVec 32 := 0#32
  let v62 : BitVec 1 := Scalar.cmpi .slt c128_i32_24 c0_i32_28
  let v63 : BitVec 32 := Scalar.extui v62
  let v64 : BitVec 32 := Scalar.subi v61 v63
  let v65 : BitVec 1 := Scalar.cmpi .ne v59 v64
  let v66 : BitVec 32 := Scalar.remsi v53 c128_i32_24
  let c0_i32_29 : BitVec 32 := 0#32
  let v67 : BitVec 1 := Scalar.cmpi .ne v66 c0_i32_29
  let v68 : BitVec 1 := Scalar.andi v65 v67
  let v54 : BitVec 32 := Scalar.divsi v53 c128_i32_24
  let c1_i32_30 : BitVec 32 := 1#32
  let v69 : BitVec 32 := Scalar.subi v54 c1_i32_30
  let v70 : BitVec 32 := Scalar.select v68 v69 v54
  let v71 : BitVec 32 := Scalar.subi v70 c0_i32_31
  let c1_i32_33 : BitVec 32 := 1#32
  let v73 : BitVec 32 := Scalar.divsi v71 c1_i32_33
  let v74 : BitVec 32 := Scalar.muli v73 c1_i32_33
  let v75 : BitVec 32 := Scalar.addi c0_i32_31 v74
  let c1_i32_34 : BitVec 32 := 1#32
  ⟨c0_i32_31, v75, c1_i32_34⟩

def k1_mult3 (v49 : BitVec 32) (v51 : BitVec 32) (k1_t3 : Fin (k1_t3_loop v51).trips) : BitVec 32 :=
  let c0_i32_31 : BitVec 32 := 0#32
  let c1_i32_34 : BitVec 32 := 1#32
  let arg14 : BitVec 32 := Scf.iv c0_i32_31 c1_i32_34 k1_t3
  let c128_i32_36 : BitVec 32 := 128#32
  let v78 : BitVec 32 := Scalar.muli arg14 c128_i32_36
  let v79 : BitVec 32 := Scalar.addi v49 v78
  v79
def k1_off5 (v49 : BitVec 32) (v51 : BitVec 32) (k1_t3 : Fin (k1_t3_loop v51).trips) : Fin 2 → Nat :=
  let c0_i32_31 : BitVec 32 := 0#32
  let c1_i32_34 : BitVec 32 := 1#32
  let arg14 : BitVec 32 := Scf.iv c0_i32_31 c1_i32_34 k1_t3
  let c128_i32_36 : BitVec 32 := 128#32
  let v78 : BitVec 32 := Scalar.muli arg14 c128_i32_36
  let v79 : BitVec 32 := Scalar.addi v49 v78
  let v80 : BitVec 32 := v79
  let v103 : Index := Scalar.indexCast v80
  let c0_47 : Index := 0#32
  ![v103.toNat, 0]
@[reducible] def k1_t4_loop (v51 : BitVec 32) : Scf.Loop 32 :=
  let c0_i32_31 : BitVec 32 := 0#32
  let c128_i32_22 : BitVec 32 := 128#32
  let v52 : BitVec 32 := Scalar.addi v51 c128_i32_22
  let c1_i32_23 : BitVec 32 := 1#32
  let v53 : BitVec 32 := Scalar.subi v52 c1_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c128_i32_24 : BitVec 32 := 128#32
  let c0_i32_27 : BitVec 32 := 0#32
  let v60 : BitVec 1 := Scalar.cmpi .sgt c128_i32_24 c0_i32_27
  let v61 : BitVec 32 := Scalar.extui v60
  let c0_i32_28 : BitVec 32 := 0#32
  let v62 : BitVec 1 := Scalar.cmpi .slt c128_i32_24 c0_i32_28
  let v63 : BitVec 32 := Scalar.extui v62
  let v64 : BitVec 32 := Scalar.subi v61 v63
  let v65 : BitVec 1 := Scalar.cmpi .ne v59 v64
  let v66 : BitVec 32 := Scalar.remsi v53 c128_i32_24
  let c0_i32_29 : BitVec 32 := 0#32
  let v67 : BitVec 1 := Scalar.cmpi .ne v66 c0_i32_29
  let v68 : BitVec 1 := Scalar.andi v65 v67
  let v54 : BitVec 32 := Scalar.divsi v53 c128_i32_24
  let c1_i32_30 : BitVec 32 := 1#32
  let v69 : BitVec 32 := Scalar.subi v54 c1_i32_30
  let v70 : BitVec 32 := Scalar.select v68 v69 v54
  let v71 : BitVec 32 := Scalar.subi v70 c0_i32_31
  let c1_i32_33 : BitVec 32 := 1#32
  let v73 : BitVec 32 := Scalar.divsi v71 c1_i32_33
  let v74 : BitVec 32 := Scalar.muli v73 c1_i32_33
  let v75 : BitVec 32 := Scalar.addi c0_i32_31 v74
  let v72 : BitVec 32 := Scalar.addi c0_i32_31 v71
  let c1_i32_35 : BitVec 32 := 1#32
  ⟨v75, v72, c1_i32_35⟩
def k1_mult4 (v49 : BitVec 32) (v51 : BitVec 32) (k1_t4 : Fin (k1_t4_loop v51).trips) : BitVec 32 :=
  let c0_i32_31 : BitVec 32 := 0#32
  let c128_i32_22 : BitVec 32 := 128#32
  let v52 : BitVec 32 := Scalar.addi v51 c128_i32_22
  let c1_i32_23 : BitVec 32 := 1#32
  let v53 : BitVec 32 := Scalar.subi v52 c1_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c128_i32_24 : BitVec 32 := 128#32
  let c0_i32_27 : BitVec 32 := 0#32
  let v60 : BitVec 1 := Scalar.cmpi .sgt c128_i32_24 c0_i32_27
  let v61 : BitVec 32 := Scalar.extui v60
  let c0_i32_28 : BitVec 32 := 0#32
  let v62 : BitVec 1 := Scalar.cmpi .slt c128_i32_24 c0_i32_28
  let v63 : BitVec 32 := Scalar.extui v62
  let v64 : BitVec 32 := Scalar.subi v61 v63
  let v65 : BitVec 1 := Scalar.cmpi .ne v59 v64
  let v66 : BitVec 32 := Scalar.remsi v53 c128_i32_24
  let c0_i32_29 : BitVec 32 := 0#32
  let v67 : BitVec 1 := Scalar.cmpi .ne v66 c0_i32_29
  let v68 : BitVec 1 := Scalar.andi v65 v67
  let v54 : BitVec 32 := Scalar.divsi v53 c128_i32_24
  let c1_i32_30 : BitVec 32 := 1#32
  let v69 : BitVec 32 := Scalar.subi v54 c1_i32_30
  let v70 : BitVec 32 := Scalar.select v68 v69 v54
  let v71 : BitVec 32 := Scalar.subi v70 c0_i32_31
  let c1_i32_33 : BitVec 32 := 1#32
  let v73 : BitVec 32 := Scalar.divsi v71 c1_i32_33
  let v74 : BitVec 32 := Scalar.muli v73 c1_i32_33
  let v75 : BitVec 32 := Scalar.addi c0_i32_31 v74
  let c1_i32_35 : BitVec 32 := 1#32
  let arg14 : BitVec 32 := Scf.iv v75 c1_i32_35 k1_t4
  let c128_i32_36 : BitVec 32 := 128#32
  let v78 : BitVec 32 := Scalar.muli arg14 c128_i32_36
  let v79 : BitVec 32 := Scalar.addi v49 v78
  v79
def k1_off6 (v49 : BitVec 32) (v51 : BitVec 32) (k1_t4 : Fin (k1_t4_loop v51).trips) : Fin 2 → Nat :=
  let c0_i32_31 : BitVec 32 := 0#32
  let c128_i32_22 : BitVec 32 := 128#32
  let v52 : BitVec 32 := Scalar.addi v51 c128_i32_22
  let c1_i32_23 : BitVec 32 := 1#32
  let v53 : BitVec 32 := Scalar.subi v52 c1_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c128_i32_24 : BitVec 32 := 128#32
  let c0_i32_27 : BitVec 32 := 0#32
  let v60 : BitVec 1 := Scalar.cmpi .sgt c128_i32_24 c0_i32_27
  let v61 : BitVec 32 := Scalar.extui v60
  let c0_i32_28 : BitVec 32 := 0#32
  let v62 : BitVec 1 := Scalar.cmpi .slt c128_i32_24 c0_i32_28
  let v63 : BitVec 32 := Scalar.extui v62
  let v64 : BitVec 32 := Scalar.subi v61 v63
  let v65 : BitVec 1 := Scalar.cmpi .ne v59 v64
  let v66 : BitVec 32 := Scalar.remsi v53 c128_i32_24
  let c0_i32_29 : BitVec 32 := 0#32
  let v67 : BitVec 1 := Scalar.cmpi .ne v66 c0_i32_29
  let v68 : BitVec 1 := Scalar.andi v65 v67
  let v54 : BitVec 32 := Scalar.divsi v53 c128_i32_24
  let c1_i32_30 : BitVec 32 := 1#32
  let v69 : BitVec 32 := Scalar.subi v54 c1_i32_30
  let v70 : BitVec 32 := Scalar.select v68 v69 v54
  let v71 : BitVec 32 := Scalar.subi v70 c0_i32_31
  let c1_i32_33 : BitVec 32 := 1#32
  let v73 : BitVec 32 := Scalar.divsi v71 c1_i32_33
  let v74 : BitVec 32 := Scalar.muli v73 c1_i32_33
  let v75 : BitVec 32 := Scalar.addi c0_i32_31 v74
  let c1_i32_35 : BitVec 32 := 1#32
  let arg14 : BitVec 32 := Scf.iv v75 c1_i32_35 k1_t4
  let c128_i32_36 : BitVec 32 := 128#32
  let v78 : BitVec 32 := Scalar.muli arg14 c128_i32_36
  let v79 : BitVec 32 := Scalar.addi v49 v78
  let v80 : BitVec 32 := v79
  let v103 : Index := Scalar.indexCast v80
  let c0_47 : Index := 0#32
  ![v103.toNat, 0]

def k1_chk2 (i : grid1.Coords) (v49 : BitVec 32) (v51 : BitVec 32) : Prop :=
  (∀ (k1_h2 : k1_cond2 i = 1#1), (k1_t3_loop v51).OK) ∧
  (∀ k1_t3 : Fin (k1_t3_loop v51).trips, ∀ (k1_h2 : k1_cond2 i = 1#1), 8 ∣ (k1_mult3 v49 v51 k1_t3).toNat) ∧
  (∀ k1_t3 : Fin (k1_t3_loop v51).trips, ∀ (k1_h2 : k1_cond2 i = 1#1), ∀ a, (k1_off5 v49 v51 k1_t3) a + S128x768.size a ≤ S4736x768.size a) ∧
  (∀ (k1_h2 : k1_cond2 i = 1#1), (k1_t4_loop v51).OK) ∧
  (∀ k1_t4 : Fin (k1_t4_loop v51).trips, ∀ (k1_h2 : k1_cond2 i = 1#1), 8 ∣ (k1_mult4 v49 v51 k1_t4).toNat) ∧
  (∀ k1_t4 : Fin (k1_t4_loop v51).trips, ∀ (k1_h2 : k1_cond2 i = 1#1), ∀ a, (k1_off6 v49 v51 k1_t4) a + S128x768.size a ≤ S4736x768.size a)
theorem k1_t3_ok : ∀ (i : grid1.Coords) (v49 : BitVec 32) (v51 : BitVec 32) (k1_hw2 : k1_chk2 i v49 v51), ∀ (k1_h2 : k1_cond2 i = 1#1), (k1_t3_loop v51).OK := fun i v49 v51 k1_hw2 k1_h2 => k1_hw2.1 k1_h2
theorem k1_mult3_dvd : ∀ (i : grid1.Coords) (v49 : BitVec 32) (v51 : BitVec 32) (k1_hw2 : k1_chk2 i v49 v51) (k1_t3 : Fin (k1_t3_loop v51).trips), ∀ (k1_h2 : k1_cond2 i = 1#1), 8 ∣ (k1_mult3 v49 v51 k1_t3).toNat := fun i v49 v51 k1_hw2 k1_t3 k1_h2 => k1_hw2.2.1 k1_t3 k1_h2
theorem k1_off5_inb : ∀ (i : grid1.Coords) (v49 : BitVec 32) (v51 : BitVec 32) (k1_hw2 : k1_chk2 i v49 v51) (k1_t3 : Fin (k1_t3_loop v51).trips), ∀ (k1_h2 : k1_cond2 i = 1#1), ∀ a, (k1_off5 v49 v51 k1_t3) a + S128x768.size a ≤ S4736x768.size a := fun i v49 v51 k1_hw2 k1_t3 k1_h2 => k1_hw2.2.2.1 k1_t3 k1_h2
theorem k1_t4_ok : ∀ (i : grid1.Coords) (v49 : BitVec 32) (v51 : BitVec 32) (k1_hw2 : k1_chk2 i v49 v51), ∀ (k1_h2 : k1_cond2 i = 1#1), (k1_t4_loop v51).OK := fun i v49 v51 k1_hw2 k1_h2 => k1_hw2.2.2.2.1 k1_h2
theorem k1_mult4_dvd : ∀ (i : grid1.Coords) (v49 : BitVec 32) (v51 : BitVec 32) (k1_hw2 : k1_chk2 i v49 v51) (k1_t4 : Fin (k1_t4_loop v51).trips), ∀ (k1_h2 : k1_cond2 i = 1#1), 8 ∣ (k1_mult4 v49 v51 k1_t4).toNat := fun i v49 v51 k1_hw2 k1_t4 k1_h2 => k1_hw2.2.2.2.2.1 k1_t4 k1_h2
theorem k1_off6_inb : ∀ (i : grid1.Coords) (v49 : BitVec 32) (v51 : BitVec 32) (k1_hw2 : k1_chk2 i v49 v51) (k1_t4 : Fin (k1_t4_loop v51).trips), ∀ (k1_h2 : k1_cond2 i = 1#1), ∀ a, (k1_off6 v49 v51 k1_t4) a + S128x768.size a ≤ S4736x768.size a := fun i v49 v51 k1_hw2 k1_t4 k1_h2 => k1_hw2.2.2.2.2.2 k1_t4 k1_h2

def k1_cond3 (i : grid1.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_7 (i : grid1.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_8 (i : grid1.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_9 (i : grid1.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 1 → Memref sig .tc .vmem S1x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x768x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S1x2048x768 : Shape := ⟨3, ![1, 2048, 768]⟩
abbrev S768x64 : Shape := ⟨2, ![768, 64]⟩
abbrev S64x768x512 : Shape := ⟨3, ![64, 768, 512]⟩
abbrev S64x512x768 : Shape := ⟨3, ![64, 512, 768]⟩
abbrev S2048x768 : Shape := ⟨2, ![2048, 768]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x64 : Shape := ⟨3, ![1, 1, 64]⟩
abbrev S2048x2x64 : Shape := ⟨3, ![2048, 2, 64]⟩
abbrev S64x512x2048 : Shape := ⟨3, ![64, 512, 2048]⟩
abbrev S64x2048x512 : Shape := ⟨3, ![64, 2048, 512]⟩
abbrev S64x2048x768 : Shape := ⟨3, ![64, 2048, 768]⟩
abbrev S64x2048 : Shape := ⟨2, ![64, 2048]⟩
abbrev S64x2048x1 : Shape := ⟨3, ![64, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x64, .f32⟩
  | .hbm, ⟨2, _⟩ => ⟨S64x768x512, .f32⟩
  | .hbm, ⟨3, _⟩ => ⟨S64x512x768, .f32⟩
  | .hbm, ⟨4, _⟩ => ⟨S2048x768, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x64, .f32⟩
  | .hbm, ⟨19, _⟩ => ⟨S2048x64, .f32⟩
  | .hbm, ⟨20, _⟩ => ⟨S2048x2, .f32⟩
  | .hbm, ⟨21, _⟩ => ⟨S2048x2, .i32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x2, .f32⟩
  | .hbm, ⟨26, _⟩ => ⟨S2048x2, .f32⟩
  | .hbm, ⟨27, _⟩ => ⟨S2048x2x1, .i32⟩
  | .hbm, ⟨28, _⟩ => ⟨S1x1x64, .i32⟩
  | .hbm, ⟨29, _⟩ => ⟨S2048x2x64, .i32⟩
  | .hbm, ⟨30, _⟩ => ⟨S2048x2x64, .i32⟩
  | .hbm, ⟨31, _⟩ => ⟨S2048x2x64, .i1⟩
  | .hbm, ⟨32, _⟩ => ⟨S2048x2x64, .f32⟩
  | .hbm, ⟨33, _⟩ => ⟨S2048x2x1, .f32⟩
  | .hbm, ⟨34, _⟩ => ⟨S2048x2x64, .f32⟩
  | .hbm, ⟨35, _⟩ => ⟨S2048x2x64, .f32⟩
  | .hbm, ⟨36, _⟩ => ⟨S_, .f32⟩
  | .hbm, ⟨37, _⟩ => ⟨S2048x64, .f32⟩
  | .hbm, ⟨38, _⟩ => ⟨S64x512x2048, .f32⟩
  | .hbm, ⟨39, _⟩ => ⟨S64x2048x512, .f32⟩
  | .hbm, ⟨40, _⟩ => ⟨S_, .f32⟩
  | .hbm, ⟨41, _⟩ => ⟨S64x2048x512, .f32⟩
  | .hbm, ⟨42, _⟩ => ⟨S64x2048x512, .f32⟩
  | .hbm, ⟨43, _⟩ => ⟨S64x2048x768, .f32⟩
  | .hbm, ⟨44, _⟩ => ⟨S64x2048, .f32⟩
  | .hbm, ⟨45, _⟩ => ⟨S64x2048x1, .f32⟩
  | .hbm, ⟨46, _⟩ => ⟨S64x2048x768, .f32⟩
  | .hbm, ⟨47, _⟩ => ⟨S64x2048x768, .f32⟩
  | .hbm, ⟨48, _⟩ => ⟨S_, .f32⟩
  | .hbm, ⟨49, _⟩ => ⟨S2048x768, .f32⟩
  | .hbm, ⟨50, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.MoeLoops.lean ====
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.ClampedCount
public import Idealize.ShloMosaic.Lib.Tactic

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

/-! ## The remainder loops have no trips -/

/-- A loop whose lower bound is its upper bound has no trips. -/
theorem trips_self (b : BitVec 32) : Scf.trips b b 1#32 = 0 := by
  simp [Scf.trips]

/-- The remainder loop of a chunk loop starts where it ends. -/
theorem noTrips (x : BitVec 32) :
    Scf.trips (Scalar.addi 0#32 (Scalar.muli (Scalar.divsi (Scalar.subi x 0#32) 1#32) 1#32)) (Scalar.addi 0#32 (Scalar.subi x 0#32)) 1#32 = 0 := by
  rw [ClampedCount.ub_norm_step_one, show Scalar.addi 0#32 (Scalar.subi x 0#32) = x from by
    simp only [Scalar.addi, Scalar.subi, IntOp.addi, IntOp.subi]; bv_omega]
  exact trips_self x

theorem noTrips2 (v19 : BitVec 32) : (k1_t2_loop v19).trips = 0 := noTrips _

theorem noTrips4 (v51 : BitVec 32) : (k1_t4_loop v51).trips = 0 := noTrips _

/-! ## What the chunk loops write -/

/-- The pieces the chunks before `k` of an expert write into the slot table, the newest first: chunk `k`'s rectangle
    holds chunk `k`'s payload. -/
def pieces {n : ℕ} (off : Fin n → Fin 2 → ℕ) (hoff : ∀ k a, off k a + S128x768.size a ≤ S4736x768.size a) (val : Fin n → Vec F S128x768 .f32) :
    ℕ → List (View.Piece (Elt F) S4736x768 .f32)
  | 0 => []
  | k + 1 => if h : k < n then ⟨Rect.unit (s := S4736x768) (off ⟨k, h⟩) S128x768.size (hoff ⟨k, h⟩), val ⟨k, h⟩⟩ :: pieces off hoff val k else pieces off hoff val k

theorem pieces_succ {n : ℕ} (off : Fin n → Fin 2 → ℕ) (hoff : ∀ k a, off k a + S128x768.size a ≤ S4736x768.size a) (val : Fin n → Vec F S128x768 .f32)
    (k : Fin n) :
    pieces off hoff val (k.val + 1) = ⟨Rect.unit (s := S4736x768) (off k) S128x768.size (hoff k), val k⟩ :: pieces off hoff val k.val := by
  rw [pieces, dif_pos k.isLt]

variable (i : grid1.Coords) (arg1 : Memref sig .tc .smem S64 .i32) (harg1 : arg1.IsWhole) (arg2 : Memref sig .tc .smem S64 .i32) (harg2 : arg2.IsWhole)
  (arg3 : Memref sig .tc .vmem S1x2048 .i32) (harg3 : arg3.IsWhole) (arg4 : Memref sig .tc .vmem S1x2048 .i32) (harg4 : arg4.IsWhole)
  (arg5 : Memref sig .tc .vmem S2048x768 .f32) (harg5 : arg5.IsWhole) (arg6 : Memref sig .tc .vmem S2x768x512 .f32) (harg6 : arg6.IsWhole)
  (arg7 : Memref sig .tc .vmem S2x512x768 .f32) (harg7 : arg7.IsWhole) (arg8 : Memref sig .tc .vmem S512x1 .i32) (harg8 : arg8.IsWhole)
  (arg9 : Memref sig .tc .vmem S512x1 .i32) (harg9 : arg9.IsWhole) (arg10 : Memref sig .tc .vmem S512x1 .f32) (harg10 : arg10.IsWhole)
  (arg11 : Memref sig .tc .vmem S512x1 .f32) (harg11 : arg11.IsWhole) (arg12 : Memref sig .tc .vmem S512x768 .f32) (harg12 : arg12.IsWhole)
  (arg13 : Memref sig .tc .vmem S4736x768 .f32) (harg13 : arg13.IsWhole)

/-- What the first expert's chunk loop writes, from the contents of the buffers it reads. -/
abbrev pcsA (v10 v12 : Vec F S1x2048 .i32) (v17 v19 : BitVec 32) (k1_hw1 : k1_chk1 i v17 v19) (k1_h2 : k1_cond2 i = 1#1)
    (X5 : BufTy.Contents (Elt F) arg5.view.ty) (X6 : BufTy.Contents (Elt F) arg6.view.ty) (X7 : BufTy.Contents (Elt F) arg7.view.ty) : ℕ → List (View.Piece (Elt F) S4736x768 .f32) :=
  pieces (k1_off2 v17 v19) (fun k => k1_off2_inb i v17 v19 k1_hw1 k k1_h2) fun k => k1_pay7 v10 v12 v17 v19 k
    (View.readAt (Elt F) arg5.view (Rect.unit (s := S2048x768) ![0, 0] S2048x768.size inb_S2048x768_S2048x768_0_0).toLoadRect X5)
    (View.readAt (Elt F) arg6.view (Rect.unit (s := S2x768x512) ![0, 0, 0] S1x768x512.size inb_S2x768x512_S1x768x512_0_0_0).toLoadRect X6)
    (View.readAt (Elt F) arg7.view (Rect.unit (s := S2x512x768) ![0, 0, 0] S1x512x768.size inb_S2x512x768_S1x512x768_0_0_0).toLoadRect X7)

/-- What the second expert's chunk loop writes, from the contents of the buffers it reads. -/
abbrev pcsB (v9 : IVec S128x2048 32) (v11 v13 : IVec S1x2048 32) (v49 v51 : BitVec 32) (k1_hw2 : k1_chk2 i v49 v51) (k1_h2 : k1_cond2 i = 1#1)
    (X5 : BufTy.Contents (Elt F) arg5.view.ty) (X6 : BufTy.Contents (Elt F) arg6.view.ty) (X7 : BufTy.Contents (Elt F) arg7.view.ty) : ℕ → List (View.Piece (Elt F) S4736x768 .f32) :=
  pieces (k1_off5 v49 v51) (fun k => k1_off5_inb i v49 v51 k1_hw2 k k1_h2) fun k => k1_pay2 v9 v11 v13 v49 v51 k
    (View.readAt (Elt F) arg5.view (Rect.unit (s := S2048x768) ![0, 0] S2048x768.size inb_S2048x768_S2048x768_0_0).toLoadRect X5)
    (View.readAt (Elt F) arg6.view (Rect.unit (s := S2x768x512) ![1, 0, 0] S1x768x512.size inb_S2x768x512_S1x768x512_1_0_0).toLoadRect X6)
    (View.readAt (Elt F) arg7.view (Rect.unit (s := S2x512x768) ![1, 0, 0] S1x512x768.size inb_S2x512x768_S1x512x768_1_0_0).toLoadRect X7)

/-! ## The loops' invariants -/

/-- What a chunk loop holds: the three buffers it reads, and the slot table at the pieces written so far. -/
abbrev ChunkInv (c : Dev nD) (X5 : BufTy.Contents (Elt F) arg5.view.ty) (X6 : BufTy.Contents (Elt F) arg6.view.ty) (X7 : BufTy.Contents (Elt F) arg7.view.ty)
    (G : BufTy.Contents (Elt F) arg13.view.ty) (L : List (View.Piece (Elt F) S4736x768 .f32)) : sProp 𝕄 :=
  iprop((arg5.view.loc (c : Thread nD τ) ↦{fullShare} X5) ∗ (arg6.view.loc (c : Thread nD τ) ↦{fullShare} X6)
    ∗ (arg7.view.loc (c : Thread nD τ) ↦{fullShare} X7)
    ∗ ∃ f, (arg13.view.loc (c : Thread nD τ) ↦{fullShare} f) ∗ ⌜f = arg13.view.writes (Elt F) G L⌝)

/-- The first expert's chunk loop. -/
@[sl_loop, instance_reducible] def inv1 (c : Dev nD) (E : Set ℕ) (arg0 : BitVec 32) (k1_h2 : k1_cond2 i = 1#1) (v10 : Vec F S1x2048 .i32) (v12 : Vec F S1x2048 .i32) (v17 : Elt F .i32) (v19 : Elt F .i32)
    (k1_hw1 : k1_chk1 i v17 v19)
    (X5 : BufTy.Contents (Elt F) arg5.view.ty) (X6 : BufTy.Contents (Elt F) arg6.view.ty) (X7 : BufTy.Contents (Elt F) arg7.view.ty) (G : BufTy.Contents (Elt F) arg13.view.ty) (init : BitVec 32) :
    LoopInv (M := 𝕄) Idealize.ShloMosaic.frame (wpE (defs₀ (F := F)) Variants.none (c : Thread nD τ) none) E (k1_t1_loop v19).lb (k1_t1_loop v19).ub (k1_t1_loop v19).st
      (k1_t1_ok i v17 v19 k1_hw1 k1_h2) init
      (k1_t1_body (F := F) i arg1 harg1 arg2 harg2 arg3 harg3 arg4 harg4 arg5 harg5 arg6 harg6 arg7 harg7 arg8 harg8 arg9 harg9 arg10 harg10 arg11 harg11 arg12 harg12 arg13 harg13 arg0 k1_h2 v10 v12 v17 v19 k1_hw1) where
  inv k _ := ChunkInv arg5 arg6 arg7 arg13 c X5 X6 X7 G (pcsA i arg5 arg6 arg7 v10 v12 v17 v19 k1_hw1 k1_h2 X5 X6 X7 k)
  step k acc := by
    unfold k1_t1_body
    iintro ⟨H5, H6, H7, ⟨%f, H13, %hf⟩⟩
    sl_exec
    sl_step
    isplitl [H5]; · iexact H5
    isplitl [H6]; · iexact H6
    isplitl [H7]; · iexact H7
    iexists _; isplitl [H13]; · iexact H13
    ipureintro; rw [hf, pcsA, pieces_succ, ← View.writes_append]; rfl

/-- The second expert's chunk loop. -/
@[sl_loop, instance_reducible] def inv3 (c : Dev nD) (E : Set ℕ) (k1_h2 : k1_cond2 i = 1#1) (v9 : IVec S128x2048 32) (v11 : IVec S1x2048 32) (v13 : IVec S1x2048 32) (v49 : Elt F .i32) (v51 : Elt F .i32)
    (k1_hw2 : k1_chk2 i v49 v51)
    (X5 : BufTy.Contents (Elt F) arg5.view.ty) (X6 : BufTy.Contents (Elt F) arg6.view.ty) (X7 : BufTy.Contents (Elt F) arg7.view.ty) (G : BufTy.Contents (Elt F) arg13.view.ty) (init : BitVec 32) :
    LoopInv (M := 𝕄) Idealize.ShloMosaic.frame (wpE (defs₀ (F := F)) Variants.none (c : Thread nD τ) none) E (k1_t3_loop v51).lb (k1_t3_loop v51).ub (k1_t3_loop v51).st
      (k1_t3_ok i v49 v51 k1_hw2 k1_h2) init
      (k1_t3_body (F := F) i arg1 harg1 arg2 harg2 arg3 harg3 arg4 harg4 arg5 harg5 arg6 harg6 arg7 harg7 arg8 harg8 arg9 harg9 arg10 harg10 arg11 harg11 arg12 harg12 arg13 harg13 k1_h2 v9 v11 v13 v49 v51 k1_hw2) where
  inv k _ := ChunkInv arg5 arg6 arg7 arg13 c X5 X6 X7 G (pcsB i arg5 arg6 arg7 v9 v11 v13 v49 v51 k1_hw2 k1_h2 X5 X6 X7 k)
  step k acc := by
    unfold k1_t3_body
    iintro ⟨H5, H6, H7, ⟨%f, H13, %hf⟩⟩
    sl_exec
    sl_step
    isplitl [H5]; · iexact H5
    isplitl [H6]; · iexact H6
    isplitl [H7]; · iexact H7
    iexists _; isplitl [H13]; · iexact H13
    ipureintro; rw [hf, pcsB, pieces_succ, ← View.writes_append]; rfl

/-- The first expert's remainder loop does nothing. -/
@[sl_loop, instance_reducible] def inv2 (c : Dev nD) (E : Set ℕ) (arg0 : BitVec 32) (k1_h2 : k1_cond2 i = 1#1) (v10 : Vec F S1x2048 .i32) (v12 : Vec F S1x2048 .i32) (v17 : Elt F .i32) (v19 : Elt F .i32)
    (k1_hw1 : k1_chk1 i v17 v19) (init : BitVec 32) :
    LoopInv (M := 𝕄) Idealize.ShloMosaic.frame (wpE (defs₀ (F := F)) Variants.none (c : Thread nD τ) none) E (k1_t2_loop v19).lb (k1_t2_loop v19).ub (k1_t2_loop v19).st
      (k1_t2_ok i v17 v19 k1_hw1 k1_h2) init
      (k1_t2_body (F := F) i arg1 harg1 arg2 harg2 arg3 harg3 arg4 harg4 arg5 harg5 arg6 harg6 arg7 harg7 arg8 harg8 arg9 harg9 arg10 harg10 arg11 harg11 arg12 harg12 arg13 harg13 arg0 k1_h2 v10 v12 v17 v19 k1_hw1) where
  inv _ _ := iprop(⌜True⌝)
  step k _ := absurd k.isLt (by have := noTrips2 v19; unfold Scf.Loop.trips at this; omega)

/-- The second expert's remainder loop does nothing. -/
@[sl_loop, instance_reducible] def inv4 (c : Dev nD) (E : Set ℕ) (k1_h2 : k1_cond2 i = 1#1) (v9 : IVec S128x2048 32) (v11 : IVec S1x2048 32) (v13 : IVec S1x2048 32) (v49 : Elt F .i32) (v51 : Elt F .i32)
    (k1_hw2 : k1_chk2 i v49 v51) (init : BitVec 32) :
    LoopInv (M := 𝕄) Idealize.ShloMosaic.frame (wpE (defs₀ (F := F)) Variants.none (c : Thread nD τ) none) E (k1_t4_loop v51).lb (k1_t4_loop v51).ub (k1_t4_loop v51).st
      (k1_t4_ok i v49 v51 k1_hw2 k1_h2) init
      (k1_t4_body (F := F) i arg1 harg1 arg2 harg2 arg3 harg3 arg4 harg4 arg5 harg5 arg6 harg6 arg7 harg7 arg8 harg8 arg9 harg9 arg10 harg10 arg11 harg11 arg12 harg12 arg13 harg13 k1_h2 v9 v11 v13 v49 v51 k1_hw2) where
  inv _ _ := iprop(⌜True⌝)
  step k _ := absurd k.isLt (by have := noTrips4 v51; unfold Scf.Loop.trips at this; omega)

end Cert.Moe

end
-- ==== Proof.Common.lean ====
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

/-- Memref `M`'s buffer on core `c`: its contents. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- What reads back from the whole of memref `M`. -/
abbrev rd (c : Dev nD) {sp : Space} {S : Shape} {e : EltTy} (M : Memref sig .tc sp S e) (f : Bf (F := F) c M) : S.Idx → Elt F e :=
  M.view.read (Elt F) f

section Values

variable (x : Vec F S2048x768 .f32) (w : Vec F S768x64 .f32)

/-- The expert's number at each element of the probability table. -/
def iotaE : IVec S2048x64 32 := iota .tc S2048x64 32 [1] iota_S2048x64_d1_w32
/-- The first choice of each row as a row of zeros and one. -/
def ohA : FVec F S2048x64 .f32 := k0_pay15 iotaE (k0_pay14 x w)
/-- The second choice of each row as a row of zeros and one. -/
def ohB : FVec F S2048x64 .f32 := k0_pay16 iotaE (k0_pay10 x w)
/-- How many rows chose each expert. -/
def cntF : FVec F S1x64 .f32 := k0_pay17 iotaE (k0_pay10 x w) (k0_pay14 x w)
/-- Each expert's first slot. -/
def baseF : FVec F S1x64 .f32 :=
  k0_pay21 (k0_pay18 (F := F) iotaE (k0_pay10 x w) (k0_pay14 x w)) k0_pay19 256#32 (k0_pay20 (F := F) iotaE (k0_pay10 x w) (k0_pay14 x w))
/-- The running counts of the first choices, row after row. -/
def preA (h : FVec F S2048x64 .f32) : FVec F S2048x64 .f32 :=
  k0_pay64 h k0_pay22 (k0_pay25 h) (k0_pay28 h) (k0_pay31 h) (k0_pay34 h) (k0_pay37 h) (k0_pay40 h) (k0_pay43 h) (k0_pay44 h) (k0_pay45 h) (k0_pay46 h)
/-- The counts of the first choices. -/
def totA (h : FVec F S2048x64 .f32) : FVec F S1x64 .f32 := k0_pay63 h k0_pay22 (k0_pay44 h) (k0_pay45 h)
/-- The running counts of the second choices that follow `t` earlier ones, at the rows' own choices. -/
def preB (h : FVec F S2048x64 .f32) (t : FVec F S1x64 .f32) : FVec F S2048x64 .f32 :=
  k0_pay89 h k0_pay22 (k0_pay67 h k0_pay22 t) (k0_pay70 h k0_pay22 t) (k0_pay73 h k0_pay22 t) (k0_pay76 h k0_pay22 t) (k0_pay79 h k0_pay22 t)
    (k0_pay82 h k0_pay22 t) (k0_pay85 h k0_pay22 t) (k0_pay86 h k0_pay22 t) (k0_pay87 h k0_pay22) (k0_pay88 h k0_pay22 t)
/-- The slot of each row's first choice. -/
def slotA : IVec S2048x1 32 := k0_pay1 (ohA x w) (baseF x w) (k0_pay65 (ohA x w) (preA (ohA x w)))
/-- The slot of each row's second choice. -/
def slotB : IVec S2048x1 32 := k0_pay2 (ohB x w) (baseF x w) (preB (ohB x w) (totA (ohA x w)))
/-- The table of counts. -/
def cntI : IVec S1x64 32 := k0_pay3 (cntF x w)
/-- The table of first slots. -/
def baseI : IVec S1x64 32 := k0_pay4 (baseF x w)

end Values

end Cert.Moe

end
-- ==== Proof.MoeRun.lean ====
module

public import proofs.«01_k».proof.Proof.MoeLoops
public import proofs.«01_k».proof.Proof.Common
public import Idealize.ShloMosaic.Lib.VecWindow

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

/-- The kernel's own test for the first grid point. -/
abbrev isFirst (i : grid1.Coords) : Prop :=
  Scalar.cmpi .ne (Scalar.extui (Scalar.cmpi .eq (BitVec.ofNat 32 (i 0).val) 0#32)) 0#32 = 1#1

/-- The word of a table that a point reads for its first expert. -/
abbrev wordA (i : grid1.Coords) (h2 : k1_cond2 i = 1#1) (c : Dev nD) (M : Memref sig .tc .smem S64 .i32) (f : Bf (F := F) c M) : Elt F .i32 :=
  View.readAt (Elt F) M.view (Rect.unit (s := S64) (k1_off1 i) S1.size (k1_off1_inb i h2)).toLoadRect f (Shape.Idx.first (numel1_S1.symm ▸ Nat.one_pos))

/-- The word of a table that a point reads for its second expert. -/
abbrev wordB (i : grid1.Coords) (h2 : k1_cond2 i = 1#1) (c : Dev nD) (M : Memref sig .tc .smem S64 .i32) (f : Bf (F := F) c M) : Elt F .i32 :=
  View.readAt (Elt F) M.view (Rect.unit (s := S64) (k1_off4 i) S1.size (k1_off4_inb i h2)).toLoadRect f (Shape.Idx.first (numel1_S1.symm ▸ Nat.one_pos))

/-- A row of slot numbers as the kernel loads it. -/
abbrev rowOf (c : Dev nD) (M : Memref sig .tc .vmem S1x2048 .i32) (f : Bf (F := F) c M) : Vec F S1x2048 .i32 :=
  View.readAt (Elt F) M.view (Rect.unit (s := S1x2048) ![0, 0] S1x2048.size inb_S1x2048_S1x2048_0_0).toLoadRect f

variable (i : grid1.Coords) (arg1 : Memref sig .tc .smem S64 .i32) (harg1 : arg1.IsWhole) (arg2 : Memref sig .tc .smem S64 .i32) (harg2 : arg2.IsWhole)
  (arg3 : Memref sig .tc .vmem S1x2048 .i32) (harg3 : arg3.IsWhole) (arg4 : Memref sig .tc .vmem S1x2048 .i32) (harg4 : arg4.IsWhole)
  (arg5 : Memref sig .tc .vmem S2048x768 .f32) (harg5 : arg5.IsWhole) (arg6 : Memref sig .tc .vmem S2x768x512 .f32) (harg6 : arg6.IsWhole)
  (arg7 : Memref sig .tc .vmem S2x512x768 .f32) (harg7 : arg7.IsWhole) (arg8 : Memref sig .tc .vmem S512x1 .i32) (harg8 : arg8.IsWhole)
  (arg9 : Memref sig .tc .vmem S512x1 .i32) (harg9 : arg9.IsWhole) (arg10 : Memref sig .tc .vmem S512x1 .f32) (harg10 : arg10.IsWhole)
  (arg11 : Memref sig .tc .vmem S512x1 .f32) (harg11 : arg11.IsWhole) (arg12 : Memref sig .tc .vmem S512x768 .f32) (harg12 : arg12.IsWhole)
  (arg13 : Memref sig .tc .vmem S4736x768 .f32) (harg13 : arg13.IsWhole)

/-- What a point of two experts leaves in the slot table: at the first point the table is cleared first, then the
    first expert's chunks are written, then the second's. -/
def expertOut (c : Dev nD) (h2 : k1_cond2 i = 1#1)
    (f1 : Bf (F := F) c arg1) (f2 : Bf (F := F) c arg2) (f3 : Bf (F := F) c arg3) (f4 : Bf (F := F) c arg4) (f5 : Bf (F := F) c arg5) (f6 : Bf (F := F) c arg6)
    (f7 : Bf (F := F) c arg7) (f13 : Bf (F := F) c arg13)
    (hc1 : k1_chk1 i (wordA i h2 c arg1 f1) (wordA i h2 c arg2 f2)) (hc2 : k1_chk2 i (wordB i h2 c arg1 f1) (wordB i h2 c arg2 f2)) : Bf (F := F) c arg13 :=
  arg13.view.writes (Elt F)
    (if isFirst i then arg13.view.writes (Elt F) arg13.view.junk [⟨Rect.unit (s := S4736x768) ![0, 0] S4736x768.size inb_S4736x768_S4736x768_0_0, k1_pay1⟩] else f13)
    (pcsB i arg5 arg6 arg7 (iota .tc S128x2048 32 [0] iota_S128x2048_d0_w32) (k1_pay5 (rowOf c arg3 f3)) (k1_pay6 (rowOf c arg4 f4))
        (wordB i h2 c arg1 f1) (wordB i h2 c arg2 f2) hc2 h2 f5 f6 f7 (k1_t3_loop (wordB i h2 c arg2 f2)).trips
      ++ pcsA i arg5 arg6 arg7 (rowOf c arg3 f3) (rowOf c arg4 f4)
        (wordA i h2 c arg1 f1) (wordA i h2 c arg2 f2) hc1 h2 f5 f6 f7 (k1_t1_loop (wordA i h2 c arg2 f2)).trips)

/-- A point of two experts runs from the tables, the slot rows, `x`, the two experts' weights and the slot table, and
    changes the slot table alone. -/
theorem expertRun (c : Dev nD) (h2 : k1_cond2 i = 1#1) (h3 : ¬ k1_cond3 i = 1#1)
    (f1 : Bf (F := F) c arg1) (f2 : Bf (F := F) c arg2) (f3 : Bf (F := F) c arg3) (f4 : Bf (F := F) c arg4) (f5 : Bf (F := F) c arg5) (f6 : Bf (F := F) c arg6)
    (f7 : Bf (F := F) c arg7) (f13 : Bf (F := F) c arg13)
    (hc1 : k1_chk1 i (wordA i h2 c arg1 f1) (wordA i h2 c arg2 f2)) (hc2 : k1_chk2 i (wordB i h2 c arg1 f1) (wordB i h2 c arg2 f2))
    (E : Set ℕ) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg13 f13
        ∗ (iprop(pt c arg1 f1 ∗ pt c arg2 f2 ∗ pt c arg3 f3 ∗ pt c arg4 f4 ∗ pt c arg5 f5 ∗ pt c arg6 f6 ∗ pt c arg7 f7
            ∗ pt c arg13 (expertOut i arg1 arg2 arg3 arg4 arg5 arg6 arg7 arg13 c h2 f1 f2 f3 f4 f5 f6 f7 f13 hc1 hc2)) -∗ Q ⟨⟩))
      ⊢ wp frame (wpE (defs₀ (F := F)) Variants.none c none) E (cc1__moe_kernel i arg1 harg1 arg2 harg2 arg3 harg3 arg4 harg4 arg5 harg5 arg6 harg6 arg7 harg7 arg8 harg8 arg9 harg9 arg10 harg10 arg11 harg11 arg12 harg12 arg13 harg13) Q := by
  iintro ⟨H1, H2, H3, H4, H5, H6, H7, H13, Hk⟩
  by_cases h1 : isFirst i
  · sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    rw [expertOut, if_pos h1, ← View.writes_append, List.append_assoc]
    iexact H13
  · sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    rw [expertOut, if_neg h1]
    iexact H13

/-- What a point of the combination leaves in its block of the result. -/
def combineOut (c : Dev nD) (f8 : Bf (F := F) c arg8) (f9 : Bf (F := F) c arg9) (f10 : Bf (F := F) c arg10) (f11 : Bf (F := F) c arg11)
    (f13 : Bf (F := F) c arg13) : Vec F S512x768 .f32 :=
  k1_pay4 (View.readAt (Elt F) arg8.view (Rect.unit (s := S512x1) ![0, 0] S512x1.size inb_S512x1_S512x1_0_0).toLoadRect f8)
    (View.readAt (Elt F) arg10.view (Rect.unit (s := S512x1) ![0, 0] S512x1.size inb_S512x1_S512x1_0_0).toLoadRect f10)
    (View.readAt (Elt F) arg9.view (Rect.unit (s := S512x1) ![0, 0] S512x1.size inb_S512x1_S512x1_0_0).toLoadRect f9)
    (View.readAt (Elt F) arg11.view (Rect.unit (s := S512x1) ![0, 0] S512x1.size inb_S512x1_S512x1_0_0).toLoadRect f11)
    (View.readAt (Elt F) arg13.view (Rect.unit (s := S4736x768) ![0, 0] S4736x768.size inb_S4736x768_S4736x768_0_0).toLoadRect f13)

/-- A point of the combination runs from its blocks of slots and weights and the slot table, and writes its block of
    the result. -/
theorem combineRun (c : Dev nD) (h1 : ¬ isFirst i) (h2 : ¬ k1_cond2 i = 1#1) (h3 : k1_cond3 i = 1#1)
    (f8 : Bf (F := F) c arg8) (f9 : Bf (F := F) c arg9) (f10 : Bf (F := F) c arg10) (f11 : Bf (F := F) c arg11) (f12 : Bf (F := F) c arg12)
    (f13 : Bf (F := F) c arg13) (E : Set ℕ) (Q : PUnit → sProp 𝕄) :
    iprop(pt c arg8 f8 ∗ pt c arg9 f9 ∗ pt c arg10 f10 ∗ pt c arg11 f11 ∗ pt c arg12 f12 ∗ pt c arg13 f13
        ∗ (iprop(pt c arg8 f8 ∗ pt c arg9 f9 ∗ pt c arg10 f10 ∗ pt c arg11 f11
            ∗ (∃ g, pt c arg12 g ∗ ⌜arg12.view.read (Elt F) g = combineOut arg8 arg9 arg10 arg11 arg13 c f8 f9 f10 f11 f13⌝) ∗ pt c arg13 f13) -∗ Q ⟨⟩))
      ⊢ wp frame (wpE (defs₀ (F := F)) Variants.none c none) E (cc1__moe_kernel i arg1 harg1 arg2 harg2 arg3 harg3 arg4 harg4 arg5 harg5 arg6 harg6 arg7 harg7 arg8 harg8 arg9 harg9 arg10 harg10 arg11 harg11 arg12 harg12 arg13 harg13) Q := by
  iintro ⟨H8, H9, H10, H11, H12, H13, Hk⟩
  sl_exec_parts!
  sl_step
  iapply Hk
  isplitl [H8]; · iexact H8
  isplitl [H9]; · iexact H9
  isplitl [H10]; · iexact H10
  isplitl [H11]; · iexact H11
  isplitl [H12]
  · iexists _; isplitl [H12]; · iexact H12
    ipureintro
    exact View.read_writes_full _ _ _ _ _
  iexact H13

end Cert.Moe

end
-- ==== Proof.MoePure.lean ====
module

public import proofs.«01_k».proof.Proof.MoeRun
public import Idealize.ShloMosaic.Lib.ValueIdxCore

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

open Idealize.ShloMosaic.ValueIdx (ix1 ix2 ix3)

/-! ## The slot table, as a function of the arrays -/

/-- The number of chunks of an expert with `cn` slots. -/
abbrev trips (cn : BitVec 32) : ℕ := (k1_t1_loop cn).trips

/-- The slot table after the first `k` chunks of an expert whose first slot is `b`, over `Y`. -/
def chunks (p0 p1 : Vec F S1x2048 .i32) (x : Vec F S2048x768 .f32) (wa : Vec F S1x768x512 .f32) (wb : Vec F S1x512x768 .f32)
    (b cn : BitVec 32) (Y : Vec F S4736x768 .f32) : ℕ → Vec F S4736x768 .f32
  | 0 => Y
  | k + 1 => if h : k < trips cn then
      VecWindow.put (chunks p0 p1 x wa wb b cn Y k) (k1_off2 b cn ⟨k, h⟩) S128x768.size (k1_pay7 p0 p1 b cn ⟨k, h⟩ x wa wb)
    else chunks p0 p1 x wa wb b cn Y k

/-- Expert `e`'s word of a table of 64 words. -/
abbrev word (T : Vec F S64 .i32) (e : ℕ) : BitVec 32 := T (ix1 (Fin.ofNat 64 e))
/-- Expert `e`'s first weight matrix. -/
abbrev slabA (w1 : Vec F S64x768x512 .f32) (e : ℕ) : Vec F S1x768x512 .f32 := fun y => w1 (ix3 (Fin.ofNat 64 e) (y 1) (y 2))
/-- Expert `e`'s second weight matrix. -/
abbrev slabB (w2 : Vec F S64x512x768 .f32) (e : ℕ) : Vec F S1x512x768 .f32 := fun y => w2 (ix3 (Fin.ofNat 64 e) (y 1) (y 2))

/-- The slot table after the first `e` experts. -/
def table (po cn : Vec F S64 .i32) (p0 p1 : Vec F S1x2048 .i32) (x : Vec F S2048x768 .f32) (w1 : Vec F S64x768x512 .f32) (w2 : Vec F S64x512x768 .f32) :
    ℕ → Vec F S4736x768 .f32
  | 0 => k1_pay1
  | e + 1 => chunks p0 p1 x (slabA w1 e) (slabB w2 e) (word po e) (word cn e) (table po cn p0 p1 x w1 w2 e) (trips (word cn e))

/-! ## What a point of two experts leaves, as that function -/

/-- Writing an expert's chunks onto the slot table is `chunks` of what was read there. -/
theorem read_pieces (M : Memref sig .tc .vmem S4736x768 .f32) (c : Dev nD) (p0 p1 : Vec F S1x2048 .i32) (x : Vec F S2048x768 .f32)
    (wa : Vec F S1x768x512 .f32) (wb : Vec F S1x512x768 .f32) (b cn : BitVec 32)
    (hoff : ∀ k a, k1_off2 b cn k a + S128x768.size a ≤ S4736x768.size a) (f : Bf (F := F) c M) (k : ℕ) :
    rd c M (M.view.writes (Elt F) f (pieces (k1_off2 b cn) hoff (fun k => k1_pay7 p0 p1 b cn k x wa wb) k))
      = chunks p0 p1 x wa wb b cn (rd c M f) k := by
  induction k with
  | zero => rfl
  | succ k ih =>
    rw [pieces, chunks]
    by_cases h : k < trips cn
    · rw [dif_pos h, dif_pos h, ← ih]
      exact View.read_writes_cons_put _ _ _ _ _ rfl
    · rw [dif_neg h, dif_neg h, ih]

/-- The word of a table the first expert loads. -/
theorem wordA_eq (i : grid1.Coords) (h2 : k1_cond2 i = 1#1) (c : Dev nD) (M : Memref sig .tc .smem S64 .i32) (f : Bf (F := F) c M) (e : ℕ)
    (he : k1_off1 i 0 = e) (hl : e < 64) : wordA i h2 c M f = word (rd c M f) e := by
  show rd c M f _ = rd c M f _
  congr 1; funext a
  match a with
  | ⟨0, _⟩ => exact Fin.ext (by show k1_off1 i 0 + 1 * 0 = e % 64; rw [he, Nat.mod_eq_of_lt hl]; omega)

/-- The word of a table the second expert loads. -/
theorem wordB_eq (i : grid1.Coords) (h2 : k1_cond2 i = 1#1) (c : Dev nD) (M : Memref sig .tc .smem S64 .i32) (f : Bf (F := F) c M) (e : ℕ)
    (he : k1_off4 i 0 = e) (hl : e < 64) : wordB i h2 c M f = word (rd c M f) e := by
  show rd c M f _ = rd c M f _
  congr 1; funext a
  match a with
  | ⟨0, _⟩ => exact Fin.ext (by show k1_off4 i 0 + 1 * 0 = e % 64; rw [he, Nat.mod_eq_of_lt hl]; omega)

variable (i : grid1.Coords) (arg1 : Memref sig .tc .smem S64 .i32) (harg1 : arg1.IsWhole) (arg2 : Memref sig .tc .smem S64 .i32) (harg2 : arg2.IsWhole)
  (arg3 : Memref sig .tc .vmem S1x2048 .i32) (harg3 : arg3.IsWhole) (arg4 : Memref sig .tc .vmem S1x2048 .i32) (harg4 : arg4.IsWhole)
  (arg5 : Memref sig .tc .vmem S2048x768 .f32) (harg5 : arg5.IsWhole) (arg6 : Memref sig .tc .vmem S2x768x512 .f32) (harg6 : arg6.IsWhole)
  (arg7 : Memref sig .tc .vmem S2x512x768 .f32) (harg7 : arg7.IsWhole) (arg8 : Memref sig .tc .vmem S512x1 .i32) (harg8 : arg8.IsWhole)
  (arg9 : Memref sig .tc .vmem S512x1 .i32) (harg9 : arg9.IsWhole) (arg10 : Memref sig .tc .vmem S512x1 .f32) (harg10 : arg10.IsWhole)
  (arg11 : Memref sig .tc .vmem S512x1 .f32) (harg11 : arg11.IsWhole) (arg12 : Memref sig .tc .vmem S512x768 .f32) (harg12 : arg12.IsWhole)
  (arg13 : Memref sig .tc .vmem S4736x768 .f32) (harg13 : arg13.IsWhole)

/-- What a point of two experts leaves in the slot table reads as the two experts' chunks over what the table read,
    or over the cleared table at the first point. -/
theorem rd_expertOut (c : Dev nD) (h2 : k1_cond2 i = 1#1)
    (f1 : Bf (F := F) c arg1) (f2 : Bf (F := F) c arg2) (f3 : Bf (F := F) c arg3) (f4 : Bf (F := F) c arg4) (f5 : Bf (F := F) c arg5) (f6 : Bf (F := F) c arg6)
    (f7 : Bf (F := F) c arg7) (f13 : Bf (F := F) c arg13)
    (hc1 : k1_chk1 i (wordA i h2 c arg1 f1) (wordA i h2 c arg2 f2)) (hc2 : k1_chk2 i (wordB i h2 c arg1 f1) (wordB i h2 c arg2 f2))
    (b cn b' cn' : BitVec 32) (e1 : wordA i h2 c arg1 f1 = b) (e2 : wordA i h2 c arg2 f2 = cn) (e3 : wordB i h2 c arg1 f1 = b') (e4 : wordB i h2 c arg2 f2 = cn')
    (wa wa' : Vec F S1x768x512 .f32) (wb wb' : Vec F S1x512x768 .f32)
    (h6 : VecWindow.window (rd c arg6 f6) ![0, 0, 0] S1x768x512.size inb_S2x768x512_S1x768x512_0_0_0 = wa)
    (h6' : VecWindow.window (rd c arg6 f6) ![1, 0, 0] S1x768x512.size inb_S2x768x512_S1x768x512_1_0_0 = wa')
    (h7 : VecWindow.window (rd c arg7 f7) ![0, 0, 0] S1x512x768.size inb_S2x512x768_S1x512x768_0_0_0 = wb)
    (h7' : VecWindow.window (rd c arg7 f7) ![1, 0, 0] S1x512x768.size inb_S2x512x768_S1x512x768_1_0_0 = wb') :
    rd c arg13 (expertOut i arg1 arg2 arg3 arg4 arg5 arg6 arg7 arg13 c h2 f1 f2 f3 f4 f5 f6 f7 f13 hc1 hc2)
      = chunks (rd c arg3 f3) (rd c arg4 f4) (rd c arg5 f5) wa' wb' b' cn'
          (chunks (rd c arg3 f3) (rd c arg4 f4) (rd c arg5 f5) wa wb b cn (if isFirst i then k1_pay1 else rd c arg13 f13) (trips cn)) (trips cn') := by
  subst e1 e2 e3 e4 h6 h6' h7 h7'
  unfold expertOut
  rw [View.writes_append]
  rw [show rowOf c arg3 f3 = rd c arg3 f3 from View.readAt_full _ _ _, show rowOf c arg4 f4 = rd c arg4 f4 from View.readAt_full _ _ _]
  have hA := read_pieces arg13 c (rd c arg3 f3) (rd c arg4 f4) (rd c arg5 f5)
    (VecWindow.window (rd c arg6 f6) ![0, 0, 0] S1x768x512.size inb_S2x768x512_S1x768x512_0_0_0)
    (VecWindow.window (rd c arg7 f7) ![0, 0, 0] S1x512x768.size inb_S2x512x768_S1x512x768_0_0_0) (wordA i h2 c arg1 f1) (wordA i h2 c arg2 f2)
    (fun k => k1_off2_inb i _ _ hc1 k h2)
    (if isFirst i then arg13.view.writes (Elt F) arg13.view.junk [⟨Rect.unit (s := S4736x768) ![0, 0] S4736x768.size inb_S4736x768_S4736x768_0_0, k1_pay1⟩] else f13)
    (trips (wordA i h2 c arg2 f2))
  have hB := read_pieces arg13 c (rd c arg3 f3) (rd c arg4 f4) (rd c arg5 f5)
    (VecWindow.window (rd c arg6 f6) ![1, 0, 0] S1x768x512.size inb_S2x768x512_S1x768x512_1_0_0)
    (VecWindow.window (rd c arg7 f7) ![1, 0, 0] S1x512x768.size inb_S2x512x768_S1x512x768_1_0_0) (wordB i h2 c arg1 f1) (wordB i h2 c arg2 f2)
    (fun k => k1_off5_inb i _ _ hc2 k h2)
    (arg13.view.writes (Elt F) (if isFirst i then arg13.view.writes (Elt F) arg13.view.junk [⟨Rect.unit (s := S4736x768) ![0, 0] S4736x768.size inb_S4736x768_S4736x768_0_0, k1_pay1⟩] else f13)
      (pieces (k1_off2 (wordA i h2 c arg1 f1) (wordA i h2 c arg2 f2)) (fun k => k1_off2_inb i _ _ hc1 k h2) (fun k => k1_pay7 (rd c arg3 f3) (rd c arg4 f4) (wordA i h2 c arg1 f1) (wordA i h2 c arg2 f2) k (rd c arg5 f5)
        (VecWindow.window (rd c arg6 f6) ![0, 0, 0] S1x768x512.size inb_S2x768x512_S1x768x512_0_0_0)
        (VecWindow.window (rd c arg7 f7) ![0, 0, 0] S1x512x768.size inb_S2x512x768_S1x512x768_0_0_0)) (trips (wordA i h2 c arg2 f2))))
    (trips (wordB i h2 c arg2 f2))
  rw [hA] at hB
  have hY : rd c arg13 (if isFirst i then arg13.view.writes (Elt F) arg13.view.junk [⟨Rect.unit (s := S4736x768) ![0, 0] S4736x768.size inb_S4736x768_S4736x768_0_0, k1_pay1⟩] else f13)
      = if isFirst i then k1_pay1 else rd c arg13 f13 := by
    by_cases h : isFirst i
    · rw [if_pos h, if_pos h]; exact View.read_writes_full _ _ _ _ _
    · rw [if_neg h, if_neg h]
  rw [← hY, ← hB]
  unfold pcsA pcsB
  rw [View.readAt_full, View.readAt_unit arg6.view f6 _ rfl inb_S2x768x512_S1x768x512_0_0_0, View.readAt_unit arg7.view f7 _ rfl inb_S2x512x768_S1x512x768_0_0_0,
    View.readAt_unit arg6.view f6 _ rfl inb_S2x768x512_S1x768x512_1_0_0, View.readAt_unit arg7.view f7 _ rfl inb_S2x512x768_S1x512x768_1_0_0]
  rfl

end Cert.Moe

end
-- ==== Proof.Dat1.lean ====
module

public import proofs.«01_k».proof.Proof.MoePure
public import proofs.«01_k».proof.Proof.Gen.KernelIdeal.Launch
public import Idealize.ShloMosaic.Lib.Pipeline.FrameBody

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

/-! ## The grid's points -/

/-- Which points are of two experts, and where each finds its words. -/
theorem expertPoint : ∀ t : Fin grid1.N, t.val < 32 →
    k1_cond2 (grid1.coords t) = 1#1 ∧ ¬ k1_cond3 (grid1.coords t) = 1#1 ∧ k1_off1 (grid1.coords t) 0 = 2 * t.val ∧ k1_off4 (grid1.coords t) 0 = 2 * t.val + 1
      ∧ (isFirst (grid1.coords t) ↔ t.val = 0) := by
  decide +kernel

/-- Which points are of the combination. -/
theorem combinePoint : ∀ t : Fin grid1.N, 32 ≤ t.val →
    ¬ isFirst (grid1.coords t) ∧ ¬ k1_cond2 (grid1.coords t) = 1#1 ∧ k1_cond3 (grid1.coords t) = 1#1 := by
  decide +kernel

/-! ## Region 1's proof data -/

variable (V : (c : Dev nD) → (b : Ref sig .tc) → Buf (Elt F) ((c : Thread nD τ).loc b)) (a : (pcfg1 (F := F)).Adm)

/-- Window 0 as staged at point `t`. -/
abbrev stgP0 (c : Dev nD) (t : Fin grid1.N) : Vec F S1x2048 .i32 := (((cfg1 a).win 0).blk t).view.read (Elt F) (V c main_v2)
/-- Window 1 as staged at point `t`. -/
abbrev stgP1 (c : Dev nD) (t : Fin grid1.N) : Vec F S1x2048 .i32 := (((cfg1 a).win 1).blk t).view.read (Elt F) (V c main_v3)
/-- Window 2 as staged at point `t`. -/
abbrev stgX (c : Dev nD) (t : Fin grid1.N) : Vec F S2048x768 .f32 := (((cfg1 a).win 2).blk t).view.read (Elt F) (V c main_v0)
/-- Window 3 as staged at point `t`. -/
abbrev stgW1 (c : Dev nD) (t : Fin grid1.N) : Vec F S2x768x512 .f32 := (((cfg1 a).win 3).blk t).view.read (Elt F) (V c main_arg2)
/-- Window 4 as staged at point `t`. -/
abbrev stgW2 (c : Dev nD) (t : Fin grid1.N) : Vec F S2x512x768 .f32 := (((cfg1 a).win 4).blk t).view.read (Elt F) (V c main_arg3)
/-- Window 5 as staged at point `t`. -/
abbrev stgQ0 (c : Dev nD) (t : Fin grid1.N) : Vec F S512x1 .i32 := (((cfg1 a).win 5).blk t).view.read (Elt F) (V c main_v1_2)
/-- Window 6 as staged at point `t`. -/
abbrev stgQ1 (c : Dev nD) (t : Fin grid1.N) : Vec F S512x1 .i32 := (((cfg1 a).win 6).blk t).view.read (Elt F) (V c main_v1_3)
/-- Window 7 as staged at point `t`. -/
abbrev stgG0 (c : Dev nD) (t : Fin grid1.N) : Vec F S512x1 .f32 := (((cfg1 a).win 7).blk t).view.read (Elt F) (V c main_v1_0)
/-- Window 8 as staged at point `t`. -/
abbrev stgG1 (c : Dev nD) (t : Fin grid1.N) : Vec F S512x1 .f32 := (((cfg1 a).win 8).blk t).view.read (Elt F) (V c main_v1_1)

/-- The first slots' table. -/
abbrev tabPo (c : Dev nD) : Vec F S64 .i32 := rd c (Memref.whole main_v4) (a.1 0)
/-- The counts' table. -/
abbrev tabCn (c : Dev nD) : Vec F S64 .i32 := rd c (Memref.whole main_v5) (a.1 1)
/-- The slot table after `e` experts. -/
def slots (c : Dev nD) (e : ℕ) : Vec F S4736x768 .f32 :=
  table (tabPo a c) (tabCn a c) (rd c (Memref.whole main_v2) (V c main_v2)) (rd c (Memref.whole main_v3) (V c main_v3))
    (rd c (Memref.whole main_v0) (V c main_v0)) (rd c (Memref.whole main_arg2) (V c main_arg2)) (rd c (Memref.whole main_arg3) (V c main_arg3)) e

/-- The routing kernel's staging buffers, held at something. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f))

/-- What the second kernel keeps between points: the slot table, written by the experts so far. -/
def keep1 (c : Dev nD) (t : ℕ) : sProp 𝕄 :=
  iprop((others (F := F) c ∗ ∃ f : Bf (F := F) c (Memref.whole cc1_scratch0), pt c (Memref.whole cc1_scratch0) f
      ∗ ⌜0 < t → rd c (Memref.whole cc1_scratch0) f = slots V a c (2 * min t 32)⌝)
    ∗ (pt c (Memref.whole main_v4) (a.1 0) ∗ pt c (Memref.whole main_v5) (a.1 1)))

/-- What the second kernel leaves, window by window. -/
def dat1 (c : Dev nD) : Dat τ (Elt F) Unit ℕ (UR sig nD τ) ℕ (cfg1 a) c where
  A w := V c (Pipeline.arrRef spec1 w)
  after w t := match w with
    | ⟨0, _⟩ => stgP0 V a c t
    | ⟨1, _⟩ => stgP1 V a c t
    | ⟨2, _⟩ => stgX V a c t
    | ⟨3, _⟩ => stgW1 V a c t
    | ⟨4, _⟩ => stgW2 V a c t
    | ⟨5, _⟩ => stgQ0 V a c t
    | ⟨6, _⟩ => stgQ1 V a c t
    | ⟨7, _⟩ => stgG0 V a c t
    | ⟨8, _⟩ => stgG1 V a c t
    | ⟨9, _⟩ => k1_pay4 (stgQ0 V a c t) (stgG0 V a c t) (stgQ1 V a c t) (stgG1 V a c t) (slots V a c (2 * min t.val 32))
    | ⟨_ + 10, h⟩ => absurd h (Nat.not_lt.2 (Nat.le_add_left _ _))
  Φ t := keep1 V a c t.val
  q _ := fullShare
  owed _ := 0

theorem before1_0 (c : Dev nD) (t : Fin (cfg1 a).N) (d : ((cfg1 a).win 0).block.Idx → Elt F ((cfg1 a).win 0).elt) :
    (dat1 V a c).before 0 t d = stgP0 V a c t :=
  (dat1 V a c).before_in_eq_fetched 0 rfl (fun _ => rfl) (fun _ _ _ => rfl) (fun _ => rfl) t d
theorem before1_1 (c : Dev nD) (t : Fin (cfg1 a).N) (d : ((cfg1 a).win 1).block.Idx → Elt F ((cfg1 a).win 1).elt) :
    (dat1 V a c).before 1 t d = stgP1 V a c t :=
  (dat1 V a c).before_in_eq_fetched 1 rfl (fun _ => rfl) (fun _ _ _ => rfl) (fun _ => rfl) t d
theorem before1_2 (c : Dev nD) (t : Fin (cfg1 a).N) (d : ((cfg1 a).win 2).block.Idx → Elt F ((cfg1 a).win 2).elt) :
    (dat1 V a c).before 2 t d = stgX V a c t :=
  (dat1 V a c).before_in_eq_fetched 2 rfl (fun _ => rfl) (fun _ _ _ => rfl) (fun _ => rfl) t d
theorem before1_3 (c : Dev nD) (t : Fin (cfg1 a).N) (d : ((cfg1 a).win 3).block.Idx → Elt F ((cfg1 a).win 3).elt) :
    (dat1 V a c).before 3 t d = stgW1 V a c t :=
  (dat1 V a c).before_in_eq_fetched 3 rfl (fun _ => rfl) (fun _ _ _ => rfl) (fun _ => rfl) t d
theorem before1_4 (c : Dev nD) (t : Fin (cfg1 a).N) (d : ((cfg1 a).win 4).block.Idx → Elt F ((cfg1 a).win 4).elt) :
    (dat1 V a c).before 4 t d = stgW2 V a c t :=
  (dat1 V a c).before_in_eq_fetched 4 rfl (fun _ => rfl) (fun _ _ _ => rfl) (fun _ => rfl) t d
theorem before1_5 (c : Dev nD) (t : Fin (cfg1 a).N) (d : ((cfg1 a).win 5).block.Idx → Elt F ((cfg1 a).win 5).elt) :
    (dat1 V a c).before 5 t d = stgQ0 V a c t :=
  (dat1 V a c).before_in_eq_fetched 5 rfl (fun _ => rfl) (fun _ _ _ => rfl) (fun _ => rfl) t d
theorem before1_6 (c : Dev nD) (t : Fin (cfg1 a).N) (d : ((cfg1 a).win 6).block.Idx → Elt F ((cfg1 a).win 6).elt) :
    (dat1 V a c).before 6 t d = stgQ1 V a c t :=
  (dat1 V a c).before_in_eq_fetched 6 rfl (fun _ => rfl) (fun _ _ _ => rfl) (fun _ => rfl) t d
theorem before1_7 (c : Dev nD) (t : Fin (cfg1 a).N) (d : ((cfg1 a).win 7).block.Idx → Elt F ((cfg1 a).win 7).elt) :
    (dat1 V a c).before 7 t d = stgG0 V a c t :=
  (dat1 V a c).before_in_eq_fetched 7 rfl (fun _ => rfl) (fun _ _ _ => rfl) (fun _ => rfl) t d
theorem before1_8 (c : Dev nD) (t : Fin (cfg1 a).N) (d : ((cfg1 a).win 8).block.Idx → Elt F ((cfg1 a).win 8).elt) :
    (dat1 V a c).before 8 t d = stgG1 V a c t :=
  (dat1 V a c).before_in_eq_fetched 8 rfl (fun _ => rfl) (fun _ _ _ => rfl) (fun _ => rfl) t d

/-- The result's window is idle at the points of two experts. -/
theorem idle9 (t : Fin (cfg1 a).N) (ht : t.val < 32) : (cfg1 a).idle 9 ((cfg1 a).grid.coords t) = true := by
  have h := (expertPoint t ht).2.1
  show (!(k1_cond3 (grid1.coords t) == 1#1)) = true
  simpa using h

/-- The result's block stays the same over the points of two experts. -/
theorem index9 : ∀ t t' : Fin grid1.N, t.val ≤ 32 → t'.val ≤ 32 → cc1_transform_9 (grid1.coords t) = cc1_transform_9 (grid1.coords t') := by
  decide +kernel

/-- Nothing of the result is written back at the points of two experts. -/
theorem flush9 (t : Fin (cfg1 a).N) (ht : t.val < 32) : ((cfg1 a).win 9).flush t = false := by
  have hN : grid1.N = 36 := N_1
  unfold Pipeline.Window.flush
  rw [Bool.and_eq_false_iff]; right
  rw [Bool.or_eq_false_iff]
  refine ⟨decide_eq_false (by show ¬ t.val + 1 = grid1.N; omega), decide_eq_false ?_⟩
  rintro ⟨h, hne⟩
  exact hne (index9 _ _ (show t.val + 1 ≤ 32 by omega) (show t.val ≤ 32 by omega))

end Cert.Moe

end
-- ==== Proof.Body1.lean ====
module

public import proofs.«01_k».proof.Proof.Dat1

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

open Idealize.ShloMosaic.ValueIdx (ix1 ix2 ix3)

variable (V : (c : Dev nD) → (b : Ref sig .tc) → Buf (Elt F) ((c : Thread nD τ).loc b)) (a : (pcfg1 (F := F)).Adm)

/-- The windows on whole arrays start at the array's start, the others at their blocks. -/
theorem blockStart : ∀ t : Fin grid1.N, cc1_transform_0 (grid1.coords t) = ![0, 0] ∧ cc1_transform_1 (grid1.coords t) = ![0, 0]
    ∧ cc1_transform_2 (grid1.coords t) = ![0, 0] ∧ (t.val < 32 → cc1_transform_3 (grid1.coords t) = ![t.val, 0, 0] ∧ cc1_transform_4 (grid1.coords t) = ![t.val, 0, 0]) := by
  decide +kernel

theorem stgP0_eq (c : Dev nD) (t : Fin grid1.N) : stgP0 V a c t = rd c (Memref.whole main_v2) (V c main_v2) := by
  funext y
  show V c main_v2 _ = V c main_v2 _
  congr 1; funext ax; apply Fin.ext
  show cc1_transform_0 (grid1.coords t) ax * S1x2048.size ax + 1 * (y ax).val = (y ax).val
  rw [(blockStart t).1]
  match ax with
  | ⟨0, _⟩ => show 0 * _ + 1 * (y 0).val = (y 0).val; omega
  | ⟨1, _⟩ => show 0 * _ + 1 * (y 1).val = (y 1).val; omega

theorem stgP1_eq (c : Dev nD) (t : Fin grid1.N) : stgP1 V a c t = rd c (Memref.whole main_v3) (V c main_v3) := by
  funext y
  show V c main_v3 _ = V c main_v3 _
  congr 1; funext ax; apply Fin.ext
  show cc1_transform_1 (grid1.coords t) ax * S1x2048.size ax + 1 * (y ax).val = (y ax).val
  rw [(blockStart t).2.1]
  match ax with
  | ⟨0, _⟩ => show 0 * _ + 1 * (y 0).val = (y 0).val; omega
  | ⟨1, _⟩ => show 0 * _ + 1 * (y 1).val = (y 1).val; omega

theorem stgX_eq (c : Dev nD) (t : Fin grid1.N) : stgX V a c t = rd c (Memref.whole main_v0) (V c main_v0) := by
  funext y
  show V c main_v0 _ = V c main_v0 _
  congr 1; funext ax; apply Fin.ext
  show cc1_transform_2 (grid1.coords t) ax * S2048x768.size ax + 1 * (y ax).val = (y ax).val
  rw [(blockStart t).2.2.1]
  match ax with
  | ⟨0, _⟩ => show 0 * _ + 1 * (y 0).val = (y 0).val; omega
  | ⟨1, _⟩ => show 0 * _ + 1 * (y 1).val = (y 1).val; omega

/-- The two first weight matrices of point `t`'s block are those of experts `2 t` and `2 t + 1`. -/
theorem stgW1_eq (c : Dev nD) (t : Fin grid1.N) (ht : t.val < 32) (j : ℕ) (hj : j < 2)
    (h : ∀ ax, (![j, 0, 0] : Fin 3 → ℕ) ax + S1x768x512.size ax ≤ S2x768x512.size ax) :
    VecWindow.window (s := S2x768x512) (stgW1 V a c t) ![j, 0, 0] S1x768x512.size h = slabA (rd c (Memref.whole main_arg2) (V c main_arg2)) (2 * t.val + j) := by
  funext y
  show V c main_arg2 _ = V c main_arg2 _
  congr 1; funext ax; apply Fin.ext
  have h0 : (y 0).val = 0 := by have : (y 0).val < 1 := (y 0).isLt; omega
  match ax with
  | ⟨0, _⟩ =>
    show cc1_transform_3 (grid1.coords t) 0 * 2 + 1 * (j + 1 * (y 0).val) = (2 * t.val + j) % 64
    rw [((blockStart t).2.2.2 ht).1]
    show t.val * 2 + 1 * (j + 1 * (y 0).val) = _
    omega
  | ⟨1, _⟩ =>
    show cc1_transform_3 (grid1.coords t) 1 * _ + 1 * (0 + 1 * (y 1).val) = (y 1).val
    rw [((blockStart t).2.2.2 ht).1]
    show 0 * _ + 1 * (0 + 1 * (y 1).val) = (y 1).val
    omega
  | ⟨2, _⟩ =>
    show cc1_transform_3 (grid1.coords t) 2 * _ + 1 * (0 + 1 * (y 2).val) = (y 2).val
    rw [((blockStart t).2.2.2 ht).1]
    show 0 * _ + 1 * (0 + 1 * (y 2).val) = (y 2).val
    omega

/-- The two second weight matrices of point `t`'s block are those of experts `2 t` and `2 t + 1`. -/
theorem stgW2_eq (c : Dev nD) (t : Fin grid1.N) (ht : t.val < 32) (j : ℕ) (hj : j < 2)
    (h : ∀ ax, (![j, 0, 0] : Fin 3 → ℕ) ax + S1x512x768.size ax ≤ S2x512x768.size ax) :
    VecWindow.window (s := S2x512x768) (stgW2 V a c t) ![j, 0, 0] S1x512x768.size h = slabB (rd c (Memref.whole main_arg3) (V c main_arg3)) (2 * t.val + j) := by
  funext y
  show V c main_arg3 _ = V c main_arg3 _
  congr 1; funext ax; apply Fin.ext
  have h0 : (y 0).val = 0 := by have : (y 0).val < 1 := (y 0).isLt; omega
  match ax with
  | ⟨0, _⟩ =>
    show cc1_transform_4 (grid1.coords t) 0 * 2 + 1 * (j + 1 * (y 0).val) = (2 * t.val + j) % 64
    rw [((blockStart t).2.2.2 ht).2]
    show t.val * 2 + 1 * (j + 1 * (y 0).val) = _
    omega
  | ⟨1, _⟩ =>
    show cc1_transform_4 (grid1.coords t) 1 * _ + 1 * (0 + 1 * (y 1).val) = (y 1).val
    rw [((blockStart t).2.2.2 ht).2]
    show 0 * _ + 1 * (0 + 1 * (y 1).val) = (y 1).val
    omega
  | ⟨2, _⟩ =>
    show cc1_transform_4 (grid1.coords t) 2 * _ + 1 * (0 + 1 * (y 2).val) = (y 2).val
    rw [((blockStart t).2.2.2 ht).2]
    show 0 * _ + 1 * (0 + 1 * (y 2).val) = (y 2).val
    omega

/-! ## The second kernel's body -/

/-- The words of the tables pass the kernel's own checks, point by point. -/
def Checks (c : Dev nD) : Prop := ∀ t : Fin grid1.N, t.val < 32 →
  k1_chk1 (grid1.coords t) (word (tabPo a c) (2 * t.val)) (word (tabCn a c) (2 * t.val))
    ∧ k1_chk2 (grid1.coords t) (word (tabPo a c) (2 * t.val + 1)) (word (tabCn a c) (2 * t.val + 1))

/-- A whole memref owned is its buffer held. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜rd c M f = X⌝ ∗ pt c M f) := by
  unfold owns pt
  rw [h.set_eq_univ]

/-- A staging buffer of the second kernel owned is its buffer held. -/
theorem owns_stage1 (c : Dev nD) (w : Fin (cfg1 a).W) (s : Fin ((cfg1 a).win w).nbuf) (X : ((cfg1 a).win w).block.Idx → Elt F ((cfg1 a).win w).elt) :
    (owns (c : Thread nD τ) (((cfg1 a).win w).stage s) fullShare X : sProp 𝕄)
      = iprop(∃ f : Bf (F := F) c (((cfg1 a).win w).stage s), ⌜rd c (((cfg1 a).win w).stage s) f = X⌝ ∗ pt c (((cfg1 a).win w).stage s) f) :=
  owns_pt c _ ((launch1 (F := F)).stage_whole w s) X

set_option maxHeartbeats 2000000 in
/-- The second kernel does what its proof data say. -/
theorem body1 (c : Dev nD) (hck : Checks a c) : BodyObligation (dat1 V a c) (defs₀ (F := F)) Variants.none () Set.univ := fun t => by
  rw [bigSep_W1, bigSep_W1]
  rw [show (dat1 V a c).Φ t.castSucc = keep1 V a c t.val from rfl, show (dat1 V a c).Φ t.succ = keep1 V a c (t.val + 1) from rfl,
    show (dat1 V a c).owesAt () t.succ = (dat1 V a c).owesAt () t.castSucc from rfl]
  have hN : grid1.N = 36 := N_1
  by_cases ht : t.val < 32
  · obtain ⟨h2, h3, ho1, ho4, hfirst⟩ := expertPoint t ht
    have hc := hck t ht
    simp only [↓owns_stage1 a c, idle9 a t ht, flush9 a t ht, show (cfg1 a).idle 0 ((cfg1 a).grid.coords t) = false from rfl, show (cfg1 a).idle 1 ((cfg1 a).grid.coords t) = false from rfl, show (cfg1 a).idle 2 ((cfg1 a).grid.coords t) = false from rfl, show (cfg1 a).idle 3 ((cfg1 a).grid.coords t) = false from rfl, show (cfg1 a).idle 4 ((cfg1 a).grid.coords t) = false from rfl, show (cfg1 a).idle 5 ((cfg1 a).grid.coords t) = false from rfl, show (cfg1 a).idle 6 ((cfg1 a).grid.coords t) = false from rfl, show (cfg1 a).idle 7 ((cfg1 a).grid.coords t) = false from rfl, show (cfg1 a).idle 8 ((cfg1 a).grid.coords t) = false from rfl]
    unfold keep1
    iintro ⟨⟨⟨Hoth, ⟨%fs, Hs, %hs⟩⟩, Hpo, Hcn⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, H9⟩
    replace hf0 := hf0.trans (before1_0 V a c t d0)
    replace hf1 := hf1.trans (before1_1 V a c t d1)
    replace hf2 := hf2.trans (before1_2 V a c t d2)
    replace hf3 := hf3.trans (before1_3 V a c t d3)
    replace hf4 := hf4.trans (before1_4 V a c t d4)
    replace hf5 := hf5.trans (before1_5 V a c t d5)
    replace hf6 := hf6.trans (before1_6 V a c t d6)
    replace hf7 := hf7.trans (before1_7 V a c t d7)
    replace hf8 := hf8.trans (before1_8 V a c t d8)
    have ea1 := wordA_eq (grid1.coords t) h2 c (Memref.whole main_v4) (a.1 0) _ ho1 (by omega)
    have ea2 := wordA_eq (grid1.coords t) h2 c (Memref.whole main_v5) (a.1 1) _ ho1 (by omega)
    have eb1 := wordB_eq (grid1.coords t) h2 c (Memref.whole main_v4) (a.1 0) _ ho4 (by omega)
    have eb2 := wordB_eq (grid1.coords t) h2 c (Memref.whole main_v5) (a.1 1) _ ho4 (by omega)
    have hc1 : k1_chk1 (grid1.coords t) (wordA (grid1.coords t) h2 c (Memref.whole main_v4) (a.1 0)) (wordA (grid1.coords t) h2 c (Memref.whole main_v5) (a.1 1)) := by
      rw [ea1, ea2]; exact hc.1
    have hc2 : k1_chk2 (grid1.coords t) (wordB (grid1.coords t) h2 c (Memref.whole main_v4) (a.1 0)) (wordB (grid1.coords t) h2 c (Memref.whole main_v5) (a.1 1)) := by
      rw [eb1, eb2]; exact hc.2
    iapply (expertRun (F := F) (grid1.coords t) (Memref.whole main_v4) (Memref.isWhole_whole _) (Memref.whole main_v5) (Memref.isWhole_whole _)
      (spec1_0.stage ((cfg1 a).slots t 0)) (hstage1_0 (((cfg1 a).slots t 0).cast nbuf1_0)) (spec1_1.stage ((cfg1 a).slots t 1)) (hstage1_1 (((cfg1 a).slots t 1).cast nbuf1_1))
      (spec1_2.stage ((cfg1 a).slots t 2)) (hstage1_2 (((cfg1 a).slots t 2).cast nbuf1_2)) (spec1_3.stage ((cfg1 a).slots t 3)) (hstage1_3 (((cfg1 a).slots t 3).cast nbuf1_3))
      (spec1_4.stage ((cfg1 a).slots t 4)) (hstage1_4 (((cfg1 a).slots t 4).cast nbuf1_4)) (spec1_5.stage ((cfg1 a).slots t 5)) (hstage1_5 (((cfg1 a).slots t 5).cast nbuf1_5))
      (spec1_6.stage ((cfg1 a).slots t 6)) (hstage1_6 (((cfg1 a).slots t 6).cast nbuf1_6)) (spec1_7.stage ((cfg1 a).slots t 7)) (hstage1_7 (((cfg1 a).slots t 7).cast nbuf1_7))
      (spec1_8.stage ((cfg1 a).slots t 8)) (hstage1_8 (((cfg1 a).slots t 8).cast nbuf1_8)) (spec1_9.stage ((cfg1 a).slots t 9)) (hstage1_9 (((cfg1 a).slots t 9).cast nbuf1_9))
      (Memref.whole cc1_scratch0) (Memref.isWhole_whole _) c h2 h3 (a.1 0) (a.1 1) f0 f1 f2 f3 f4 fs hc1 hc2 Set.univ _)
    isplitl [Hpo]; · iexact Hpo
    isplitl [Hcn]; · iexact Hcn
    isplitl [H0]; · iexact H0
    isplitl [H1]; · iexact H1
    isplitl [H2]; · iexact H2
    isplitl [H3]; · iexact H3
    isplitl [H4]; · iexact H4
    isplitl [Hs]; · iexact Hs
    iintro ⟨Hpo, Hcn, H0, H1, H2, H3, H4, Hs⟩
    isplitl [Hoth Hs Hpo Hcn]
    · isplitl [Hoth Hs]
      · isplitl [Hoth]; · iexact Hoth
        iexists _; isplitl [Hs]; · iexact Hs
        ipureintro; intro _
        rw [rd_expertOut (grid1.coords t) (Memref.whole main_v4) (Memref.whole main_v5) (spec1_0.stage ((cfg1 a).slots t 0)) (spec1_1.stage ((cfg1 a).slots t 1))
          (spec1_2.stage ((cfg1 a).slots t 2)) (spec1_3.stage ((cfg1 a).slots t 3)) (spec1_4.stage ((cfg1 a).slots t 4)) (Memref.whole cc1_scratch0) c h2
          (a.1 0) (a.1 1) f0 f1 f2 f3 f4 fs hc1 hc2 _ _ _ _ ea1 ea2 eb1 eb2 _ _ _ _
          ((congrArg (fun z => VecWindow.window (s := S2x768x512) z _ _ _) hf3).trans (stgW1_eq V a c t ht 0 (by omega) _))
          ((congrArg (fun z => VecWindow.window (s := S2x768x512) z _ _ _) hf3).trans (stgW1_eq V a c t ht 1 (by omega) _))
          ((congrArg (fun z => VecWindow.window (s := S2x512x768) z _ _ _) hf4).trans (stgW2_eq V a c t ht 0 (by omega) _))
          ((congrArg (fun z => VecWindow.window (s := S2x512x768) z _ _ _) hf4).trans (stgW2_eq V a c t ht 1 (by omega) _))]
        rw [show rd c (spec1_0.stage ((cfg1 a).slots t 0)) f0 = _ from hf0.trans (stgP0_eq V a c t), show rd c (spec1_1.stage ((cfg1 a).slots t 1)) f1 = _ from hf1.trans (stgP1_eq V a c t),
          show rd c (spec1_2.stage ((cfg1 a).slots t 2)) f2 = _ from hf2.trans (stgX_eq V a c t)]
        have hY : (if isFirst (grid1.coords t) then k1_pay1 else rd c (Memref.whole cc1_scratch0) fs) = slots V a c (2 * t.val) := by
          by_cases h0 : t.val = 0
          · rw [if_pos (hfirst.mpr h0), h0]; rfl
          · rw [if_neg (mt hfirst.mp h0), hs (by omega), Nat.min_eq_left (by omega)]
        rw [hY, Nat.min_eq_left (by omega), show 2 * (t.val + 1) = 2 * t.val + 1 + 1 by omega]
        rfl
      isplitl [Hpo]; · iexact Hpo
      iexact Hcn
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexists f5; isplitr; swap; (· iexact H5); ipureintro; exact hf5
    isplitl [H6]; · iexists f6; isplitr; swap; (· iexact H6); ipureintro; exact hf6
    isplitl [H7]; · iexists f7; isplitr; swap; (· iexact H7); ipureintro; exact hf7
    isplitl [H8]; · iexists f8; isplitr; swap; (· iexact H8); ipureintro; exact hf8
    rw [show idle1 9 ((pcfg1.gridAt a.1).coords t) = true from idle9 a t ht]
    dsimp only
    split
    · iexact H9
    · rename_i h
      exact absurd (h.symm.trans (flush9 a t ht)) (by decide)
  · obtain ⟨h1, h2, h3⟩ := combinePoint t (by omega)
    have hi : (cfg1 a).idle 9 ((cfg1 a).grid.coords t) = false := by
      show (!(k1_cond3 (grid1.coords t) == 1#1)) = false
      simp [h3]
    simp only [↓owns_stage1 a c, hi, show (cfg1 a).idle 0 ((cfg1 a).grid.coords t) = false from rfl, show (cfg1 a).idle 1 ((cfg1 a).grid.coords t) = false from rfl, show (cfg1 a).idle 2 ((cfg1 a).grid.coords t) = false from rfl, show (cfg1 a).idle 3 ((cfg1 a).grid.coords t) = false from rfl, show (cfg1 a).idle 4 ((cfg1 a).grid.coords t) = false from rfl, show (cfg1 a).idle 5 ((cfg1 a).grid.coords t) = false from rfl, show (cfg1 a).idle 6 ((cfg1 a).grid.coords t) = false from rfl, show (cfg1 a).idle 7 ((cfg1 a).grid.coords t) = false from rfl, show (cfg1 a).idle 8 ((cfg1 a).grid.coords t) = false from rfl]
    unfold keep1
    iintro ⟨⟨⟨Hoth, ⟨%fs, Hs, %hs⟩⟩, Hpo, Hcn⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩⟩
    replace hf0 := hf0.trans (before1_0 V a c t d0)
    replace hf1 := hf1.trans (before1_1 V a c t d1)
    replace hf2 := hf2.trans (before1_2 V a c t d2)
    replace hf3 := hf3.trans (before1_3 V a c t d3)
    replace hf4 := hf4.trans (before1_4 V a c t d4)
    replace hf5 := hf5.trans (before1_5 V a c t d5)
    replace hf6 := hf6.trans (before1_6 V a c t d6)
    replace hf7 := hf7.trans (before1_7 V a c t d7)
    replace hf8 := hf8.trans (before1_8 V a c t d8)
    iapply (combineRun (F := F) (grid1.coords t) (Memref.whole main_v4) (Memref.isWhole_whole _) (Memref.whole main_v5) (Memref.isWhole_whole _)
      (spec1_0.stage ((cfg1 a).slots t 0)) (hstage1_0 (((cfg1 a).slots t 0).cast nbuf1_0)) (spec1_1.stage ((cfg1 a).slots t 1)) (hstage1_1 (((cfg1 a).slots t 1).cast nbuf1_1))
      (spec1_2.stage ((cfg1 a).slots t 2)) (hstage1_2 (((cfg1 a).slots t 2).cast nbuf1_2)) (spec1_3.stage ((cfg1 a).slots t 3)) (hstage1_3 (((cfg1 a).slots t 3).cast nbuf1_3))
      (spec1_4.stage ((cfg1 a).slots t 4)) (hstage1_4 (((cfg1 a).slots t 4).cast nbuf1_4)) (spec1_5.stage ((cfg1 a).slots t 5)) (hstage1_5 (((cfg1 a).slots t 5).cast nbuf1_5))
      (spec1_6.stage ((cfg1 a).slots t 6)) (hstage1_6 (((cfg1 a).slots t 6).cast nbuf1_6)) (spec1_7.stage ((cfg1 a).slots t 7)) (hstage1_7 (((cfg1 a).slots t 7).cast nbuf1_7))
      (spec1_8.stage ((cfg1 a).slots t 8)) (hstage1_8 (((cfg1 a).slots t 8).cast nbuf1_8)) (spec1_9.stage ((cfg1 a).slots t 9)) (hstage1_9 (((cfg1 a).slots t 9).cast nbuf1_9))
      (Memref.whole cc1_scratch0) (Memref.isWhole_whole _) c h1 h2 h3 f5 f6 f7 f8 f9 fs Set.univ _)
    isplitl [H5]; · iexact H5
    isplitl [H6]; · iexact H6
    isplitl [H7]; · iexact H7
    isplitl [H8]; · iexact H8
    isplitl [H9]; · iexact H9
    isplitl [Hs]; · iexact Hs
    iintro ⟨H5, H6, H7, H8, ⟨%g9, H9, %hg9⟩, Hs⟩
    isplitl [Hoth Hs Hpo Hcn]
    · isplitl [Hoth Hs]
      · isplitl [Hoth]; · iexact Hoth
        iexists fs; isplitl [Hs]; · iexact Hs
        ipureintro; intro _
        rw [hs (by omega), Nat.min_eq_right (by omega), Nat.min_eq_right (by omega)]
      isplitl [Hpo]; · iexact Hpo
      iexact Hcn
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexists f5; isplitr; swap; (· iexact H5); ipureintro; exact hf5
    isplitl [H6]; · iexists f6; isplitr; swap; (· iexact H6); ipureintro; exact hf6
    isplitl [H7]; · iexists f7; isplitr; swap; (· iexact H7); ipureintro; exact hf7
    isplitl [H8]; · iexists f8; isplitr; swap; (· iexact H8); ipureintro; exact hf8
    rw [show idle1 9 ((pcfg1.gridAt a.1).coords t) = false from hi]
    iexists g9; isplitr; swap; (· iexact H9); ipureintro
    refine hg9.trans ?_
    unfold combineOut
    rw [View.readAt_full, View.readAt_full, View.readAt_full, View.readAt_full, View.readAt_full]
    refine (congr (congr (congr (congr (congrArg k1_pay4 hf5) hf7) hf6) hf8) (hs (by omega))).trans ?_
    rfl

end Cert.Moe

end
-- ==== Proof.Region0.lean ====
module

public import proofs.«01_k».proof.Proof.Common
public import Idealize.ShloMosaic.Lib.VecWindow

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

set_option maxRecDepth 100000 in
/-- The router runs from `x` and the router's weights, and leaves in its six outputs the two weights, the two slots,
    the counts and the first slots. -/
theorem routerRun (c : Dev nD) (M0 : Memref sig .tc .vmem S2048x768 .f32) (h0 : M0.IsWhole) (M1 : Memref sig .tc .vmem S768x64 .f32) (h1 : M1.IsWhole)
    (M2 : Memref sig .tc .vmem S2048x1 .f32) (h2 : M2.IsWhole) (M3 : Memref sig .tc .vmem S2048x1 .f32) (h3 : M3.IsWhole)
    (M4 : Memref sig .tc .vmem S2048x1 .i32) (h4 : M4.IsWhole) (M5 : Memref sig .tc .vmem S2048x1 .i32) (h5 : M5.IsWhole)
    (M6 : Memref sig .tc .vmem S1x64 .i32) (h6 : M6.IsWhole) (M7 : Memref sig .tc .vmem S1x64 .i32) (h7 : M7.IsWhole)
    (f0 : Bf (F := F) c M0) (f1 : Bf (F := F) c M1) (f2 : Bf (F := F) c M2) (f3 : Bf (F := F) c M3) (f4 : Bf (F := F) c M4) (f5 : Bf (F := F) c M5)
    (f6 : Bf (F := F) c M6) (f7 : Bf (F := F) c M7) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7
        ∗ (iprop(pt c M0 f0 ∗ pt c M1 f1
            ∗ (∃ g, pt c M2 g ∗ ⌜rd c M2 g = k0_pay12 (rd c M0 f0) (rd c M1 f1)⌝)
            ∗ (∃ g, pt c M3 g ∗ ⌜rd c M3 g = k0_pay13 (rd c M0 f0) (rd c M1 f1)⌝)
            ∗ (∃ g, pt c M4 g ∗ ⌜rd c M4 g = slotA (rd c M0 f0) (rd c M1 f1)⌝)
            ∗ (∃ g, pt c M5 g ∗ ⌜rd c M5 g = slotB (rd c M0 f0) (rd c M1 f1)⌝)
            ∗ (∃ g, pt c M6 g ∗ ⌜rd c M6 g = cntI (rd c M0 f0) (rd c M1 f1)⌝)
            ∗ (∃ g, pt c M7 g ∗ ⌜rd c M7 g = baseI (rd c M0 f0) (rd c M1 f1)⌝)) -∗ Q ⟨⟩))
      ⊢ wp frame (wpE (defs₀ (F := F)) Variants.none c none) E (cc0__router_kernel M0 h0 M1 h1 M2 h2 M3 h3 M4 h4 M5 h5 M6 h6 M7 h7) Q := by
  have e0 : View.readAt (Elt F) M0.view (Rect.unit (s := S2048x768) ![0, 0] S2048x768.size inb_S2048x768_S2048x768_0_0).toLoadRect f0 = rd c M0 f0 :=
    View.readAt_full _ _ _
  have e1 : View.readAt (Elt F) M1.view (Rect.unit (s := S768x64) ![0, 0] S768x64.size inb_S768x64_S768x64_0_0).toLoadRect f1 = rd c M1 f1 :=
    View.readAt_full _ _ _
  iintro ⟨H0, H1, H2, H3, H4, H5, H6, H7, Hk⟩
  sl_exec_parts!
  sl_step
  iapply Hk
  isplitl [H0]; · iexact H0
  isplitl [H1]; · iexact H1
  isplitl [H2]
  · iexists _; isplitl [H2]; · iexact H2
    ipureintro; exact View.read_writes_full _ _ _ _ _
  isplitl [H3]
  · iexists _; isplitl [H3]; · iexact H3
    ipureintro; exact View.read_writes_full _ _ _ _ _
  isplitl [H4]
  · iexists _; isplitl [H4]; · iexact H4
    ipureintro
    exact View.read_writes_full _ _ _ _ _
  isplitl [H5]
  · iexists _; isplitl [H5]; · iexact H5
    ipureintro
    exact View.read_writes_full _ _ _ _ _
  isplitl [H6]
  · iexists _; isplitl [H6]; · iexact H6
    ipureintro; exact View.read_writes_full _ _ _ _ _
  iexists _; isplitl [H7]; · iexact H7
  ipureintro; exact View.read_writes_full _ _ _ _ _

end Cert.Moe

end
-- ==== Proof.Seg0.lean ====
module

public import proofs.«01_k».proof.Proof.Region0
public import proofs.«01_k».proof.Proof.Gen.KernelIdeal.Points

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

/-! ## Region 0's proof data -/

variable (V : (c : Dev nD) → (b : Ref sig .tc) → Buf (Elt F) ((c : Thread nD τ).loc b))

/-- The tokens as staged. -/
abbrev stgX0 (c : Dev nD) : Vec F S2048x768 .f32 := ((cfg0.win 0).blk t0_0).view.read (Elt F) (V c main_v0)
/-- The routing weights as staged. -/
abbrev stgW0 (c : Dev nD) : Vec F S768x64 .f32 := ((cfg0.win 1).blk t0_0).view.read (Elt F) (V c main_arg1)

/-- What the routing kernel leaves, window by window. -/
def dat0 (c : Dev nD) : Dat τ (Elt F) Unit ℕ (UR sig nD τ) ℕ cfg0 c where
  A w := V c (Pipeline.arrRef spec0 w)
  after w _ := match w with
    | ⟨0, _⟩ => stgX0 V c
    | ⟨1, _⟩ => stgW0 V c
    | ⟨2, _⟩ => k0_pay12 (stgX0 V c) (stgW0 V c)
    | ⟨3, _⟩ => k0_pay13 (stgX0 V c) (stgW0 V c)
    | ⟨4, _⟩ => slotA (stgX0 V c) (stgW0 V c)
    | ⟨5, _⟩ => slotB (stgX0 V c) (stgW0 V c)
    | ⟨6, _⟩ => cntI (stgX0 V c) (stgW0 V c)
    | ⟨7, _⟩ => baseI (stgX0 V c) (stgW0 V c)
    | ⟨_ + 8, h⟩ => absurd h (Nat.not_lt.2 (Nat.le_add_left _ _))
  Φ _ := Pipeline.scopedRest (Ix := Unit) (Name := ℕ) (U := UR sig nD τ) (Lvl := ℕ) (Val := Elt F) spec0 c
  q _ := fullShare
  owed _ := 0

theorem before0_0 (c : Dev nD) (d : (cfg0.win 0).block.Idx → Elt F (cfg0.win 0).elt) : (dat0 V c).before 0 t0_0 d = stgX0 V c := by
  unfold Dat.before; rw [if_pos (fetch0_0 t0_0)]; rfl
theorem before0_1 (c : Dev nD) (d : (cfg0.win 1).block.Idx → Elt F (cfg0.win 1).elt) : (dat0 V c).before 1 t0_0 d = stgW0 V c := by
  unfold Dat.before; rw [if_pos (fetch0_1 t0_0)]; rfl

/-- The routing kernel does what its proof data say. -/
theorem body0 (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = Pipeline.scopedRest spec0 c from rfl, show (dat0 V c).Φ t0_0.succ = Pipeline.scopedRest spec0 c from rfl,
    show (dat0 V c).owesAt () t0_0.succ = (dat0 V c).owesAt () t0_0.castSucc from rfl]
  iintro ⟨HΦ, Howes, ⟨%d0, %f0, %hf0, H0⟩, ⟨%d1, %f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩⟩
  rw [before0_0] at hf0
  rw [before0_1] at hf1
  iapply (routerRun (F := F) c (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (stage0_7 0) (hstage0_7 0) f0 f1 f2 f3 f4 f5 f6 f7 Set.univ _)
  have e0 : rd c (stage0_0 0) f0 = stgX0 V c := hf0
  have e1 : rd c (stage0_1 0) f1 = stgW0 V c := hf1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [e0, e1]
  iintro ⟨H0, H1, ⟨%g2, H2, %hg2⟩, ⟨%g3, H3, %hg3⟩, ⟨%g4, H4, %hg4⟩, ⟨%g5, H5, %hg5⟩, ⟨%g6, H6, %hg6⟩, ⟨%g7, H7, %hg7⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists g2; isplitr; swap; (· iexact H2); ipureintro; exact hg2
  isplitl [H3]; · iexists g3; isplitr; swap; (· iexact H3); ipureintro; exact hg3
  isplitl [H4]; · iexists g4; isplitr; swap; (· iexact H4); ipureintro; exact hg4
  isplitl [H5]; · iexists g5; isplitr; swap; (· iexact H5); ipureintro; exact hg5
  isplitl [H6]; · iexists g6; isplitr; swap; (· iexact H6); ipureintro; exact hg6
  iexists g7; isplitr; swap; (· iexact H7); ipureintro; exact hg7

end Cert.Moe

end
-- ==== Proof.Launch.lean ====
module

public import proofs.«01_k».proof.Proof.Body1
public import proofs.«01_k».proof.Proof.Seg0
public import proofs.«01_k».proof.Proof.Gen.KernelIdeal.Regions
public import Idealize.ShloMosaic.Lib.Pipeline.RegionArraysTS

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program's run: the pipeline library's. -/
local notation "𝕄" => MT nD τ sig Unit (Elt F) ℕ (UR sig nD τ) ℕ

/-! ## The buffers through the program -/

/-- Every semaphore of a TensorCore is at the one level. -/
abbrev Lv : GSem nD τ sig → Finset Unit := fun g => if g.1.2 = .tc then {()} else ∅
/-- The level. -/
abbrev lv0 : GSem nD τ sig → Unit → ℕ := fun _ _ => 0
/-- What rides along: the core owes nothing. -/
abbrev Rest (c : Dev nD) : sProp 𝕄 := iprop((∃ W, owes (c : Thread nD τ) (0 : CellTallies nD τ sig Unit) W) ∗ BI.emp ∗ BI.emp)

variable (m : (ℓ : Loc nD τ sig) → Buf (Elt F) ℓ)

/-- The buffers at the routing kernel's entry. -/
abbrev U1 (c : Dev nD) : Valuation τ sig (Elt F) := StableHlo.after hostOps0 (V0 m c)
/-- The routing kernel's proof data in the program's run. -/
abbrev D0 (c : Dev nD) : Dat τ (Elt F) Unit ℕ (UR sig nD τ) ℕ cfg0 c := dat0 (fun c b => U1 m c b) c
/-- The buffers after the routing kernel. -/
def U2 (c : Dev nD) : Valuation τ sig (Elt F) := Pipeline.afterRegion (D0 m c) (U1 m c)
/-- The buffers at the expert kernel's entry. -/
abbrev U3 (c : Dev nD) : Valuation τ sig (Elt F) := StableHlo.after hostOps1 (U2 m c)
/-- The tables' contents. -/
def adm : (p : Fin 2) → (pcfgs (F := F) p).Adm
  | ⟨0, _⟩ => cfg0.toPCfg_adm
  | ⟨1, _⟩ => ⟨fun k => U3 m 0 (Proc.devRef .tc (pre1.ref k)), trivial⟩
/-- The expert kernel's proof data in the program's run. -/
abbrev D1 (c : Dev nD) : Dat τ (Elt F) Unit ℕ (UR sig nD τ) ℕ (cfg1 (adm m 1)) c := dat1 (fun c b => U3 m c b) (adm m 1) c
/-- The buffers after the expert kernel. -/
def U4 (c : Dev nD) : Valuation τ sig (Elt F) := Pipeline.afterRegion (D1 m c) (U3 m c)
/-- The buffers at the program's end. -/
abbrev U5 (c : Dev nD) : Valuation τ sig (Elt F) := StableHlo.after hostOps2 (U4 m c)

/-- The two kernels' proof data. -/
def pdats : (p : Fin 2) → (c : Dev nD) → Dat τ (Elt F) Unit ℕ (UR sig nD τ) ℕ (Pipeline.pin (pcfgs (F := F)) (adm m) p) c
  | ⟨0, _⟩ => fun c => D0 m c
  | ⟨1, _⟩ => fun c => D1 m c

theorem cut (p : Fin 2) : Pipeline.LevelCut (pcfgs (F := F)) (adm m) () Lv lv0 p (fun _ => 0) (fun _ => 0) where
  hι c w s := by simp [Lv]
  hιb c w s := le_refl 0
  hD c g i h := absurd h (lt_irrefl _)

set_option backward.isDefEq.respectTransparency.types false in
/-- The routing kernel over the program's buffers. -/
def reg0 : Pipeline.RegionSeg (pcfgs (F := F)) (adm m) (pdats m) () defs₀ Variants.none Lv lv0 0 :=
  Pipeline.RegionSeg.ofHeldInT (pcfgs (F := F)) (adm m) (pdats m) () defs₀ Variants.none Lv lv0 0 (fun _ => 0) (Pipeline.ucRefs τ sig)
    (fun _ => BI.emp) (fun _ => BI.emp) launch0 (fun c => (body0 (fun c b => U1 m c b) c).loose) (fun _ _ => rfl) (fun _ => rfl)
    (fun c => (pdats m 0 c).share_full fun _ => rfl)
    (fun c => by
      show _ ⊢ (Pipeline.scopedRest spec0 c : sProp 𝕄)
      iintro ⟨⟨H, -⟩, -⟩; iexact H)
    (fun c => by
      show (Pipeline.scopedRest spec0 c : sProp 𝕄) ⊢ _
      iintro H
      isplitl [H]
      · isplitl [H]; · iexact H
        iempintro
      unfold Pipeline.tablesAt Pipeline.prefHeld; rw [show (Finset.univ : Finset (Fin 0)) = ∅ from rfl, BI.bigSep_empty]; iempintro)
    (fun _ => 0) (cut m 0) (fun _ => BI.emp) (U1 m) (fun _ _ => rfl) (fun _ k => k.elim0)

theorem tables_eq (c : Dev nD) : (Pipeline.tablesAt (pcfgs (F := F)) (adm m) 1 c : sProp 𝕄)
    = iprop(pt c (Memref.whole main_v4) ((adm m 1).1 0) ∗ pt c (Memref.whole main_v5) ((adm m 1).1 1)) := by
  unfold Pipeline.tablesAt Pipeline.prefHeld
  exact bigSep_univ_eq_bigSepL [(0 : Fin 2), (1 : Fin 2)] (by decide) (by decide) _

set_option backward.isDefEq.respectTransparency.types false in
/-- The expert kernel over the program's buffers. -/
def reg1 (hck : ∀ c, Checks (adm m 1) c) : Pipeline.RegionSeg (pcfgs (F := F)) (adm m) (pdats m) () defs₀ Variants.none Lv lv0 1 :=
  Pipeline.RegionSeg.ofHeldInT (pcfgs (F := F)) (adm m) (pdats m) () defs₀ Variants.none Lv lv0 1 (fun _ => 0) (Pipeline.ucRefs τ sig)
    (fun _ => BI.emp) (fun _ => BI.emp) launch1 (fun c => (body1 (fun c b => U3 m c b) (adm m 1) c (hck c)).loose) (fun _ _ => rfl) (fun _ => rfl)
    (fun c => (pdats m 1 c).share_full fun _ => rfl)
    (fun c => by
      show _ ⊢ keep1 (fun c b => U3 m c b) (adm m 1) c 0
      rw [tables_eq]
      unfold keep1 others
      rw [show (Pipeline.scopedRest (Pipeline.pin (pcfgs (F := F)) (adm m) 1).spec c : sProp 𝕄) = _ from scopedRest1_eq c]
      iintro ⟨⟨⟨H0, H1, H2, H3, H4, H5, H6, H7, ⟨%f, H8⟩⟩, -⟩, Ht⟩
      isplitr [Ht]; swap; · iexact Ht
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexists f
      isplitl [H8]; · iexact H8
      ipureintro; intro h; exact absurd h (lt_irrefl 0))
    (fun c => by
      show keep1 (fun c b => U3 m c b) (adm m 1) c grid1.N ⊢ _
      rw [tables_eq]
      unfold keep1 others
      rw [show (Pipeline.scopedRest (Pipeline.pin (pcfgs (F := F)) (adm m) 1).spec c : sProp 𝕄) = _ from scopedRest1_eq c]
      iintro ⟨⟨⟨H0, H1, H2, H3, H4, H5, H6, H7⟩, ⟨%f, H8, -⟩⟩, Ht⟩
      isplitr [Ht]; swap; · iexact Ht
      isplitl; swap; · iempintro
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists f; iexact H8)
    (fun _ => 0) (cut m 1) (fun _ => BI.emp) (U3 m) (fun _ _ => rfl) (fun c k => by rw [Subsingleton.elim c 0]; rfl)

theorem tbl0 : Pipeline.tblRefs ((pcfgs (F := F) 0).pre) ⊆ Pipeline.ucRefs τ sig := fun b hb => by

  unfold Pipeline.tblRefs at hb
  obtain ⟨r, hr, -⟩ := Finset.mem_map.mp hb
  obtain ⟨k, -⟩ := Finset.mem_image.mp hr
  exact k.elim0

set_option backward.isDefEq.respectTransparency.types false in
theorem enter0 (c : Dev nD) : iprop(StableHlo.held (c : Thread nD τ) (Pipeline.ucRefs τ sig) (U1 m c) ∗ Rest c) ⊢ (reg0 m).pre c := by
  unfold reg0
  exact Pipeline.RegionSeg.ofHeldInT_pre (pcs := pcfgs (F := F)) (a := adm m) (pdats := pdats m) (ι := ()) (defs₀ := defs₀) (𝒱₀ := Variants.none) (L := Lv) (lv := lv0) (p := 0) (D := fun _ => 0)
    (S := Pipeline.ucRefs τ sig) (X := fun _ => BI.emp) (Y := fun _ => BI.emp) (R := fun _ => BI.emp) (W := U1 m) (Pipeline.arrRefs_sub_ucRefs _ winFacts0.arr_unscoped) tbl0 c
theorem U2_eq (c : Dev nD) : U2 m c = Pipeline.afterRegion (pdats m 0 c) (U1 m c) := rfl
theorem U4_eq (c : Dev nD) : U4 m c = Pipeline.afterRegion (pdats m 1 c) (U3 m c) := rfl

set_option backward.isDefEq.respectTransparency.types false in
theorem leave0 (c : Dev nD) : (reg0 m).post c ⊢ iprop(StableHlo.held (c : Thread nD τ) (Pipeline.ucRefs τ sig) (U2 m c) ∗ Rest c) := by
  have h : (reg0 m).post c ⊢ iprop(StableHlo.held (c : Thread nD τ) (Pipeline.ucRefs τ sig) (Pipeline.afterRegion (pdats m 0 c) (U1 m c)) ∗ Rest c) := by
    unfold reg0
    exact Pipeline.RegionSeg.ofHeldInT_post (pcs := pcfgs (F := F)) (p := 0) (Pipeline.arrRefs_sub_ucRefs _ winFacts0.arr_unscoped) tbl0 c
  exact h

set_option backward.isDefEq.respectTransparency.types false in
theorem enter1 (hck : ∀ c, Checks (adm m 1) c) (c : Dev nD) :
    iprop(StableHlo.held (c : Thread nD τ) (Pipeline.ucRefs τ sig) (U3 m c) ∗ Rest c) ⊢ (reg1 m hck).pre c := by
  unfold reg1
  exact Pipeline.RegionSeg.ofHeldInT_pre (pcs := pcfgs (F := F)) (a := adm m) (pdats := pdats m) (ι := ()) (defs₀ := defs₀) (𝒱₀ := Variants.none) (L := Lv) (lv := lv0) (p := 1) (D := fun _ => 0)
    (S := Pipeline.ucRefs τ sig) (X := fun _ => BI.emp) (Y := fun _ => BI.emp) (R := fun _ => BI.emp) (W := U3 m) (Pipeline.arrRefs_sub_ucRefs _ winFacts1.arr_unscoped) (Pipeline.tblRefs_sub_ucRefs _ preFacts1.unscoped) c
set_option backward.isDefEq.respectTransparency.types false in
theorem leave1 (hck : ∀ c, Checks (adm m 1) c) (c : Dev nD) : (reg1 m hck).post c ⊢ iprop(StableHlo.held (c : Thread nD τ) (Pipeline.ucRefs τ sig) (U4 m c) ∗ Rest c) := by
  have h : (reg1 m hck).post c ⊢ iprop(StableHlo.held (c : Thread nD τ) (Pipeline.ucRefs τ sig) (Pipeline.afterRegion (pdats m 1 c) (U3 m c)) ∗ Rest c) := by
    unfold reg1
    exact Pipeline.RegionSeg.ofHeldInT_post (pcs := pcfgs (F := F)) (p := 1) (Pipeline.arrRefs_sub_ucRefs _ winFacts1.arr_unscoped) (Pipeline.tblRefs_sub_ucRefs _ preFacts1.unscoped) c
  exact h

section
variable (a : (p : Fin 2) → (pcfgs (F := F) p).Adm)
  (pd : (p : Fin 2) → (c : Dev nD) → Dat τ (Elt F) Unit ℕ (UR sig nD τ) ℕ (Pipeline.pin (pcfgs (F := F)) a p) c)
  (R0 : Pipeline.RegionSeg (pcfgs (F := F)) a pd () defs₀ Variants.none Lv lv0 0)
  (R1 : Pipeline.RegionSeg (pcfgs (F := F)) a pd () defs₀ Variants.none Lv lv0 1)
  (A B : Dev nD → Valuation τ sig (Elt F))

/-- The program's items: host operations, the routing kernel, host operations, the expert kernel, host operations. -/
abbrev items (_ : Dev nD) : List (Pipeline.Seg (pcfgs (F := F)) a pd () defs₀ Variants.none Lv lv0) :=
  [.host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (V0 m) Rest),
    .region R0,
    .host (Pipeline.HostSeg.ofOps _ _ _ _ _ (Pipeline.ucRefs τ sig) hostOps1
      (fun op h => Pipeline.sub_ucRefs op ((List.forall_iff_forall_mem.mp hostOps1_sub) op h))
      (fun op h => (List.forall_iff_forall_mem.mp hostOps1_fresh) op h) A Rest),
    .region R1,
    .host (Pipeline.HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) B Rest)]

set_option backward.isDefEq.respectTransparency.types false in
/-- Given the two kernels' records, the program runs to the end, every buffer of a core then as computed and every semaphore at zero. -/
theorem runs_of (ρ : Dev nD → PrngReg)
    (hpre0 : ∀ c : Dev nD, iprop(StableHlo.held (c : Thread nD τ) (Pipeline.ucRefs τ sig) (U1 m c) ∗ Rest c) ⊢ R0.pre c)
    (hpost0 : ∀ c : Dev nD, R0.post c ⊢ iprop(StableHlo.held (c : Thread nD τ) (Pipeline.ucRefs τ sig) (A c) ∗ Rest c))
    (hpre1 : ∀ c : Dev nD, iprop(StableHlo.held (c : Thread nD τ) (Pipeline.ucRefs τ sig) (StableHlo.after hostOps1 (A c)) ∗ Rest c) ⊢ R1.pre c)
    (hpost1 : ∀ c : Dev nD, R1.post c ⊢ iprop(StableHlo.held (c : Thread nD τ) (Pipeline.ucRefs τ sig) (B c) ∗ Rest c)) :
    θ_run (defs (F := F)) (onTc (τ := τ) (main (F := F))) ⟨m, fun _ => 0, ρ⟩ (fun r =>
      (∀ c : Dev nD, ∀ b ∈ Pipeline.ucRefs τ sig, r.2.mem ((c : Thread nD τ).1, b) = StableHlo.after hostOps2 (B c) b) ∧ r.2.sem = fun _ => 0) := by
  refine Pipeline.θ_run_regions_kit_dev_sems (pcfgs (F := F)) a pd () (cellOf_inj a) emb₁ defs₀ Variants.none Lv lv0 m ρ main
    (items m a pd R0 R1 A B)
    (fun c Q => by
      rewrite [main_chain c, Pipeline.Seg.run_eq_chain,
        show (items m a pd R0 R1 A B c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.Seg.pipes_host, Pipeline.Seg.pipes_region, Pipeline.Seg.pipes_nil]; decide) 0
    (fun g hg => if_neg hg) (fun _ => BI.emp) (initOf (Pipeline.cells (Pipeline.pin (pcfgs (F := F)) a) (cellOf_inj a)) (Pipeline.launchToks (Pipeline.pin (pcfgs (F := F)) a) (cellOf_inj a))) ?hu
    (T₀ := fun c => iprop(StableHlo.held (c : Thread nD τ) (Pipeline.ucRefs τ sig) (V0 m c) ∗ Rest c))
    (Tₙ := fun c => StableHlo.held (c : Thread nD τ) (Pipeline.ucRefs τ sig) (StableHlo.after hostOps2 (B c)))
    (hch := fun c => ⟨.rfl, hpre0 c, hpost0 c, hpre1 c, hpost1 c, sep_mono .rfl (by iintro ⟨H, -⟩; iexact H)⟩)
    (hinit := ?_) (QY := fun c s => ∀ b ∈ Pipeline.ucRefs τ sig, s.mem ((c : Thread nD τ).1, b) = StableHlo.after hostOps2 (B c) b)
    (hfin := fun c s' => ?_) (hQ := fun _ h hz => ⟨h, funext fun g => hz g (.inr (regions_no_unscoped g.2))⟩)
  case hu =>
    iintro Hu; imodintro
    isplitl [Hu]
    · iapply (show (ownU _ : sProp 𝕄) ⊢ BI.own (emb₁ (initOf (Pipeline.cells (Pipeline.pin (pcfgs (F := F)) a) (cellOf_inj a)) (Pipeline.launchToks (Pipeline.pin (pcfgs (F := F)) a) (cellOf_inj a)))) from .rfl)
      iexact Hu
    iapply (show (BI.emp : sProp 𝕄) ⊢ bigSep Finset.univ (fun _ : Dev nD => (BI.emp : sProp 𝕄)) from by rw [BI.bigSep_emp_const])
    iempintro
  · refine Pipeline.initEach Lv lv0 fun c => ?_
    rw [← Pipeline.unscopedBufs_held (Ix := Unit) (Name := ℕ) (U := UR sig nD τ) (Lvl := ℕ) c (V0 m c)]
    iintro ⟨⟨Hb, -, HO, -⟩, -⟩
    imodintro
    isplitl [Hb]; · iexact Hb
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (StableHlo.after hostOps2 (B c)) s') $$ [Hh HSI]
    · isplitl [Hh] <;> iassumption
    icases Hr with ⟨%h, HSI⟩
    imodintro
    isplitr
    · ipureintro; exact h
    · iexact HSI

end

/-- The program runs to the end, every buffer of a core then as computed and every semaphore at zero. -/
theorem runs (ρ : Dev nD → PrngReg) (hck : ∀ c, Checks (adm m 1) c) :
    θ_run (defs (F := F)) (onTc (τ := τ) (main (F := F))) ⟨m, fun _ => 0, ρ⟩ (fun r =>
      (∀ c : Dev nD, ∀ b ∈ Pipeline.ucRefs τ sig, r.2.mem ((c : Thread nD τ).1, b) = U5 m c b) ∧ r.2.sem = fun _ => 0) :=
  runs_of m (adm m) (pdats m) (reg0 m) (reg1 m hck) (U2 m) (U4 m) ρ (enter0 m) (leave0 m) (enter1 m hck) (leave1 m hck)

end Cert.Moe

end
-- ==== Proof.Words.lean ====
module

public import proofs.«01_k».proof.Proof.MoePure
public import Idealize.ShloMosaic.Lib.Pointwise
public import Idealize.ShloMosaic.Lib.Routing.Words
public import Idealize.ShloMosaic.Lib.WordArith

@[expose] public section

set_option maxRecDepth 16384

noncomputable section

namespace Cert.Moe

open Cert.KernelIdeal Cert.KernelIdeal.Gen
open Idealize.ShloMosaic Idealize.ShloMosaic.TcCoe

/-! # Words that hold small natural numbers -/

/-- A small number as a word is converted to the extended real it is. -/
theorem sitofp_nat {n : ℕ} (h : n < 2 ^ 31) : FloatOps.sitofp (F := Ideal) FTy.f32 (BitVec.ofNat 32 n) = ((n : ℕ) : EReal) := by
  show (((BitVec.ofNat 32 n).toInt : ℝ) : EReal) = _
  rw [WordArith.toInt_ofNat_small n h, Int.cast_natCast, EReal.coe_natCast]

/-- A small number as an extended real is converted to its word. -/
theorem fptosi_nat {n : ℕ} (h : n < 2 ^ 31) : Ideal.fptosi 32 ((n : ℕ) : EReal) = BitVec.ofNat 32 n := by
  rw [← EReal.coe_natCast]
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num), BitVec.ofInt_natCast]

/-- Whether two small numbers' words are equal, as a word. -/
theorem eq_word {a b : ℕ} (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  refine ⟨fun h => ?_, fun h => h ▸ rfl⟩
  have := congrArg BitVec.toNat h
  rwa [WordArith.toNat_ofNat_of_lt _ ha, WordArith.toNat_ofNat_of_lt _ hb] at this

/-- Whether a small number is less than another. -/
theorem slt_word {a b : ℕ} (ha : a < 2 ^ 31) (hb : b < 2 ^ 31) :
    IntOp.cmpi CmpIPredicate.slt (BitVec.ofNat 32 a) (BitVec.ofNat 32 b) = BitVec.ofBool (decide (a < b)) := by
  show BitVec.ofBool (decide ((BitVec.ofNat 32 a).toInt < (BitVec.ofNat 32 b).toInt)) = _
  rw [WordArith.toInt_ofNat_small a ha, WordArith.toInt_ofNat_small b hb]
  simp only [Nat.cast_lt]

/-- Whether a small number is no less than another. -/
theorem sge_word {a b : ℕ} (ha : a < 2 ^ 31) (hb : b < 2 ^ 31) :
    IntOp.cmpi CmpIPredicate.sge (BitVec.ofNat 32 a) (BitVec.ofNat 32 b) = BitVec.ofBool (decide (b ≤ a)) := by
  show BitVec.ofBool (decide ((BitVec.ofNat 32 b).toInt ≤ (BitVec.ofNat 32 a).toInt)) = _
  rw [WordArith.toInt_ofNat_small a ha, WordArith.toInt_ofNat_small b hb]
  simp only [Nat.cast_le]

/-- A truth value converted is one or zero. -/
theorem sitofp_bool (p : Prop) [Decidable p] :
    FloatOps.sitofp (F := Ideal) FTy.f32 (BitVec.setWidth 32 (BitVec.ofBool (decide p))) = (((if p then 1 else 0 : ℕ)) : EReal) := by
  rw [Routing.setWidth_ofBool]
  exact sitofp_nat (by split <;> norm_num)

/-- Rounding a count up to a multiple of eight, on words. -/
theorem pad_word : ∀ n : Fin 4097,
    IntOp.muli (Scalar.select (IntOp.andi (IntOp.cmpi CmpIPredicate.ne
        (IntOp.subi (BitVec.setWidth 32 (IntOp.cmpi CmpIPredicate.sgt (IntOp.addi (BitVec.ofNat 32 n.val) 7#32) 0#32))
          (BitVec.setWidth 32 (IntOp.cmpi CmpIPredicate.slt (IntOp.addi (BitVec.ofNat 32 n.val) 7#32) 0#32)))
        (Scalar.subi (Scalar.extui (Scalar.cmpi CmpIPredicate.sgt 8#32 0#32)) (Scalar.extui (Scalar.cmpi CmpIPredicate.slt 8#32 0#32))))
      (IntOp.cmpi CmpIPredicate.ne (IntOp.remsi ArithUnit.vector (IntOp.addi (BitVec.ofNat 32 n.val) 7#32) 8#32) 0#32))
      (IntOp.subi (IntOp.divsi ArithUnit.vector (IntOp.addi (BitVec.ofNat 32 n.val) 7#32) 8#32) 1#32)
      (IntOp.divsi ArithUnit.vector (IntOp.addi (BitVec.ofNat 32 n.val) 7#32) 8#32)) 8#32 = BitVec.ofNat 32 ((n.val + 7) / 8 * 8) := by
  decide +kernel

/-- The number of whole 256s in a length, on words. -/
theorem hi_word : ∀ n : Fin 4104,
    Scalar.select (IntOp.andi (IntOp.cmpi CmpIPredicate.ne
        (IntOp.subi (BitVec.setWidth 32 (IntOp.cmpi CmpIPredicate.sgt (BitVec.ofNat 32 n.val) 0#32))
          (BitVec.setWidth 32 (IntOp.cmpi CmpIPredicate.slt (BitVec.ofNat 32 n.val) 0#32)))
        (Scalar.subi (Scalar.extui (Scalar.cmpi CmpIPredicate.sgt 256#32 0#32)) (Scalar.extui (Scalar.cmpi CmpIPredicate.slt 256#32 0#32))))
      (IntOp.cmpi CmpIPredicate.ne (IntOp.remsi ArithUnit.vector (BitVec.ofNat 32 n.val) 256#32) 0#32))
      (IntOp.subi (IntOp.divsi ArithUnit.vector (BitVec.ofNat 32 n.val) 256#32) 1#32)
      (IntOp.divsi ArithUnit.vector (BitVec.ofNat 32 n.val) 256#32) = BitVec.ofNat 32 (n.val / 256) := by
  decide +kernel

/-- What is left of a length after whole 256s, on words. -/
theorem lo_word : ∀ n : Fin 4104,
    Scalar.select (IntOp.andi (IntOp.xori
        (IntOp.cmpi CmpIPredicate.slt (IntOp.remsi ArithUnit.vector (BitVec.ofNat 32 n.val) (Scalar.select (Scalar.cmpi CmpIPredicate.eq 256#32 0#32) 1#32 256#32)) 0#32)
        (Scalar.cmpi CmpIPredicate.slt (Scalar.select (Scalar.cmpi CmpIPredicate.eq 256#32 0#32) 1#32 256#32) 0#32))
      (IntOp.cmpi CmpIPredicate.ne (IntOp.remsi ArithUnit.vector (BitVec.ofNat 32 n.val) (Scalar.select (Scalar.cmpi CmpIPredicate.eq 256#32 0#32) 1#32 256#32)) 0#32))
      (IntOp.addi (IntOp.remsi ArithUnit.vector (BitVec.ofNat 32 n.val) (Scalar.select (Scalar.cmpi CmpIPredicate.eq 256#32 0#32) 1#32 256#32))
        (Scalar.select (Scalar.cmpi CmpIPredicate.eq 256#32 0#32) 1#32 256#32))
      (IntOp.remsi ArithUnit.vector (BitVec.ofNat 32 n.val) (Scalar.select (Scalar.cmpi CmpIPredicate.eq 256#32 0#32) 1#32 256#32)) = BitVec.ofNat 32 (n.val % 256) := by
  decide +kernel

/-- The number of chunks of an expert, from its count's word. -/
theorem trips_word : ∀ n : Fin 4097, trips (BitVec.ofNat 32 n.val) = (n.val + 127) / 128 := by
  decide +kernel

/-- The chunk loop is meaningful for every count. -/
theorem ok_word : ∀ n : Fin 4097, (k1_t1_loop (BitVec.ofNat 32 n.val)).OK ∧ (k1_t2_loop (BitVec.ofNat 32 n.val)).OK := by
  decide +kernel

end Cert.Moe

end
-- ==== Proof.Slots.lean ====
module

public import Mathlib.Algebra.BigOperators.Intervals
public import Mathlib.Algebra.Order.BigOperators.Group.Finset
public import Mathlib.Algebra.BigOperators.Ring.Finset
public import Mathlib.Tactic.Ring

@[expose] public section

/-! # The slots of the choices

Rows `0 … 2047` each choose a first expert `a` and a second expert `b`. The choices are sorted by expert: expert `e` gets a run of slots that begins
at a multiple of eight, first choices before second ones, rows in order. Natural numbers throughout. -/

namespace Cert.Moe.Slots

open Finset

variable (a b : ℕ → ℕ)

/-- One if row `j` chooses `e`, and zero if not. -/
def hit (j e : ℕ) : ℕ := if a j = e then 1 else 0
/-- How many of the first `n` rows choose `e`. -/
def pre (n e : ℕ) : ℕ := ∑ j ∈ range n, hit a j e
/-- How many choices fall on `e`. -/
def cnt (e : ℕ) : ℕ := pre a 2048 e + pre b 2048 e
/-- The length of the run of `e`. -/
def pad (e : ℕ) : ℕ := (cnt a b e + 7) / 8 * 8
/-- Where the run of `e` begins. -/
def base (e : ℕ) : ℕ := ∑ k ∈ range e, pad a b k
/-- The slot of row `i`'s first choice. -/
def slA (i : ℕ) : ℕ := base a b (a i) + pre a i (a i)
/-- The slot of row `i`'s second choice. -/
def slB (i : ℕ) : ℕ := base a b (b i) + (pre a 2048 (b i) + pre b i (b i))

theorem pre_succ (n e : ℕ) : pre a (n + 1) e = pre a n e + hit a n e := sum_range_succ ..
theorem hit_self (j : ℕ) : hit a j (a j) = 1 := if_pos rfl

theorem pre_mono {m n : ℕ} (h : m ≤ n) (e : ℕ) : pre a m e ≤ pre a n e :=
  sum_le_sum_of_subset (range_mono h)

/-- A later row counts an earlier row of the same choice. -/
theorem pre_lt {i n : ℕ} (h : i < n) : pre a i (a i) < pre a n (a i) := by
  have := pre_mono a (Nat.succ_le_of_lt h) (a i)
  rw [Nat.succ_eq_add_one, pre_succ, hit_self] at this
  omega

theorem base_succ (e : ℕ) : base a b (e + 1) = base a b e + pad a b e := sum_range_succ ..
theorem cnt_le_pad (e : ℕ) : cnt a b e ≤ pad a b e := by unfold pad; omega
theorem pad_le (e : ℕ) : pad a b e ≤ cnt a b e + 7 := by unfold pad; omega

theorem base_mono {m n : ℕ} (h : m ≤ n) : base a b m ≤ base a b n := sum_le_sum_of_subset (range_mono h)

/-- The run of an earlier expert ends before a later one's begins. -/
theorem base_add_cnt {e e' : ℕ} (h : e < e') : base a b e + cnt a b e ≤ base a b e' :=
  (Nat.add_le_add_left (cnt_le_pad a b e) _).trans ((base_succ a b e).symm.le.trans (base_mono a b h))

theorem dvd_base (e : ℕ) : 8 ∣ base a b e := Finset.dvd_sum fun _ _ => ⟨_, mul_comm _ _⟩

theorem sum_hit (N : ℕ) (j : ℕ) : ∑ e ∈ range N, hit a j e ≤ 1 := by
  unfold hit
  rw [sum_ite_eq]
  split <;> omega

theorem sum_pre (N n : ℕ) : ∑ e ∈ range N, pre a n e ≤ n := by
  unfold pre
  rw [sum_comm]
  exact (sum_le_sum fun j _ => sum_hit a N j).trans (by simp)

theorem base_le (e : ℕ) : base a b e ≤ 4096 + 7 * e := by
  have h : base a b e ≤ ∑ k ∈ range e, (pre a 2048 k + pre b 2048 k + 7) := sum_le_sum fun k _ => pad_le a b k
  rw [sum_add_distrib, sum_add_distrib] at h
  have h1 := sum_pre a e 2048
  have h2 := sum_pre b e 2048
  simp only [sum_const, card_range, nsmul_eq_mul, Nat.cast_id] at h
  omega

theorem cnt_le (e : ℕ) : cnt a b e ≤ 4096 := by
  have h1 := sum_pre a (e + 1) 2048
  have h2 := sum_pre b (e + 1) 2048
  rw [sum_range_succ] at h1 h2
  unfold cnt
  omega

variable {a b}

theorem slA_lt {i : ℕ} (hi : i < 2048) : slA a b i < base a b (a i) + pre a 2048 (a i) :=
  Nat.add_lt_add_left (pre_lt a hi) _
theorem slA_lt_cnt {i : ℕ} (hi : i < 2048) : slA a b i < base a b (a i) + cnt a b (a i) := by
  have := slA_lt (a := a) (b := b) hi; unfold cnt; omega
theorem slB_lt {i : ℕ} (hi : i < 2048) : slB a b i < base a b (b i) + cnt a b (b i) := by
  have := pre_lt b hi; unfold cnt slB; omega

/-- Two slots of different experts differ. -/
theorem run_ne {s t e e' : ℕ} (h1 : base a b e ≤ s) (h2 : s < base a b e + cnt a b e) (h3 : base a b e' ≤ t) (h4 : t < base a b e' + cnt a b e')
    (h : s = t) : e = e' := by
  rcases lt_trichotomy e e' with hl | hl | hl
  · have := base_add_cnt a b hl; omega
  · exact hl
  · have := base_add_cnt a b hl; omega

theorem pre_inj {i j : ℕ} (h : a i = a j) (hp : pre a i (a i) = pre a j (a j)) : i = j := by
  rcases lt_trichotomy i j with hl | hl | hl
  · have := pre_lt a hl; rw [← h] at hp; omega
  · exact hl
  · have := pre_lt a hl; rw [h] at hp; omega

theorem slA_inj {i j : ℕ} (hi : i < 2048) (hj : j < 2048) (h : slA a b i = slA a b j) : i = j := by
  have he := run_ne (Nat.le_add_right _ _) (slA_lt_cnt hi) (Nat.le_add_right _ _) (slA_lt_cnt hj) h
  refine pre_inj he ?_
  unfold slA at h; rw [he] at h ⊢; omega

theorem slB_inj {i j : ℕ} (hi : i < 2048) (hj : j < 2048) (h : slB a b i = slB a b j) : i = j := by
  have he := run_ne (Nat.le_add_right _ _) (slB_lt hi) (Nat.le_add_right _ _) (slB_lt hj) h
  refine pre_inj (a := b) he ?_
  unfold slB at h; rw [he] at h ⊢; omega

theorem slA_ne_slB {i j : ℕ} (hi : i < 2048) (hj : j < 2048) : slA a b i ≠ slB a b j := by
  intro h
  have he := run_ne (Nat.le_add_right _ _) (slA_lt_cnt hi) (Nat.le_add_right _ _) (slB_lt hj) h
  have := slA_lt (a := a) (b := b) hi
  rw [h, he] at this
  unfold slB at this
  omega

end Cert.Moe.Slots

end
-- ==== Proof.Table.lean ====
module

public import proofs.«01_k».proof.Proof.Words
public import proofs.«01_k».proof.Proof.Slots

@[expose] public section

set_option maxRecDepth 16384

noncomputable section

namespace Cert.Moe

open Cert.KernelIdeal Cert.KernelIdeal.Gen
open Idealize.ShloMosaic Idealize.ShloMosaic.TcCoe

open Cert.Moe.Slots

/-! # What the slot table holds

Every slot that a choice has holds its expert's value of the chosen row. -/

/-- The small multi-layer network of expert `e` at a row of inputs. -/
def mlp (w1 : FVec Ideal S64x768x512 .f32) (w2 : FVec Ideal S64x512x768 .f32) (e : Fin 64) (v : Fin 768 → EReal) (d : Fin 768) : EReal :=
  ∑ f : Fin 512, max (∑ c : Fin 768, v c * w1 (ix3 e c f)) 0 * w2 (ix3 e f d)

/-- The row of inputs gathered for slot `s`: the sum of the rows that have this slot. -/
def gath (x : FVec Ideal S2048x768 .f32) (p q : ℕ → ℕ) (s : ℕ) (c : Fin 768) : EReal :=
  ∑ t : Fin 2048, (((if p t.val = s ∨ q t.val = s then 1 else 0 : ℕ)) : EReal) * x (ix2 t c)

/-- A row's slot gathers the row: no other row has the slot. -/
theorem gath_eq (x : FVec Ideal S2048x768 .f32) (p q : ℕ → ℕ) (s : ℕ) (i : Fin 2048) (hi : p i.val = s ∨ q i.val = s)
    (hu : ∀ t : Fin 2048, p t.val = s ∨ q t.val = s → t = i) (c : Fin 768) : gath x p q s c = x (ix2 i c) := by
  unfold gath
  rw [Finset.sum_eq_single i]
  · rw [if_pos hi, Nat.cast_one, one_mul]
  · intro t _ ht
    rw [if_neg fun h => ht (hu t h), Nat.cast_zero, zero_mul]
  · exact fun h => absurd (Finset.mem_univ i) h

/-- The induction variable of a chunk loop. -/
theorem iv_word (k : ℕ) : Scf.iv 0#32 1#32 k = BitVec.ofNat 32 k := by
  simp [Scf.iv]

/-- Where chunk `k` begins, on words. -/
theorem chunk_word (b k : ℕ) : Scalar.addi (BitVec.ofNat 32 b) (Scalar.muli (Scf.iv 0#32 1#32 k) 128#32) = BitVec.ofNat 32 (b + 128 * k) := by
  rw [iv_word]
  show BitVec.ofNat 32 b + BitVec.ofNat 32 k * BitVec.ofNat 32 128 = _
  rw [← BitVec.ofNat_mul, ← BitVec.ofNat_add, mul_comm]

/-- Whether a chunk's row is a given slot, on words. -/
theorem row_word {s o r : ℕ} (hs : s < 2 ^ 31) (ho : o + r < 2 ^ 31) :
    IntOp.cmpi CmpIPredicate.eq (BitVec.ofNat 32 r) (IntOp.subi (BitVec.ofNat 32 s) (BitVec.ofNat 32 o)) = BitVec.ofBool (decide (s = o + r)) := by
  show BitVec.ofBool (BitVec.ofNat 32 r == BitVec.ofNat 32 s - BitVec.ofNat 32 o) = _
  congr 1
  rw [Bool.eq_iff_iff, beq_iff_eq, decide_eq_true_iff, eq_sub_iff_add_eq, ← BitVec.ofNat_add]
  refine ⟨fun h => ?_, fun h => by rw [h, add_comm]⟩
  have := congrArg BitVec.toNat h
  rw [WordArith.toNat_ofNat_of_lt _ (by omega), WordArith.toNat_ofNat_of_lt _ (by omega)] at this
  omega

variable (p0 p1 : IVec S1x2048 32) (x : FVec Ideal S2048x768 .f32) (p q : ℕ → ℕ)
  (hp0 : ∀ t : Fin 2048, p0 (ix2 0 t) = BitVec.ofNat 32 (p t.val)) (hp1 : ∀ t : Fin 2048, p1 (ix2 0 t) = BitVec.ofNat 32 (q t.val))
  (hp : ∀ t : Fin 2048, p t.val < 2 ^ 31) (hq : ∀ t : Fin 2048, q t.val < 2 ^ 31)
  (w1 : FVec Ideal S64x768x512 .f32) (w2 : FVec Ideal S64x512x768 .f32)

include hp0 hp1 hp hq in
/-- What chunk `k` of an expert computes at its row `r`. -/
theorem chunk_at (e : Fin 64) (b : ℕ) (cn : BitVec 32) (k : Fin (k1_t1_loop cn).trips) (r : Fin 128) (d : Fin 768) (hb : b + 128 * k.val + r.val < 2 ^ 31) :
    k1_pay7 (F := Ideal) p0 p1 (BitVec.ofNat 32 b) cn k x (slabA w1 e.val) (slabB w2 e.val) (ix2 r d)
      = mlp w1 w2 e (gath x p q (b + 128 * k.val + r.val)) d := by
  have he : Fin.ofNat 64 e.val = e := Fin.ofNat_val_eq_self e
  have hA : ∀ (c : Fin 768) (f : Fin 512), slabA (F := Ideal) w1 e.val (ix3 0 c f) = w1 (ix3 e c f) := fun c f => by
    show w1 (ix3 (Fin.ofNat 64 e.val) c f) = _
    rw [he]
  have hB : ∀ (f : Fin 512) (d : Fin 768), slabB (F := Ideal) w2 e.val (ix3 0 f d) = w2 (ix3 e f d) := fun c f => by
    show w2 (ix3 (Fin.ofNat 64 e.val) c f) = _
    rw [he]
  pointwise [k1_pay7, k1_pay5, k1_pay6]
  simp only [hA, hB, hp0, hp1, chunk_word, fun t : Fin 2048 => row_word (s := p t.val) (hp t) hb, fun t : Fin 2048 => row_word (s := q t.val) (hq t) hb,
    WordArith.ori_ofBool, ← Bool.decide_or, sitofp_bool]
  rfl

/-- The offsets of chunk `k`. -/
theorem off_eq (b : ℕ) (cn : BitVec 32) (k : Fin (k1_t1_loop cn).trips) (hb : b + 128 * k.val < 2 ^ 31) :
    k1_off2 (BitVec.ofNat 32 b) cn k = ![b + 128 * k.val, 0] := by
  have : (Scalar.addi (BitVec.ofNat 32 b) (Scalar.muli (Scf.iv 0#32 1#32 k.val) 128#32)).toNat = b + 128 * k.val := by
    rw [chunk_word, WordArith.toNat_ofNat_of_lt _ (by omega)]
  show ![(Scalar.indexCast (Scalar.addi (BitVec.ofNat 32 b) (Scalar.muli (Scf.iv 0#32 1#32 k.val) 128#32))).toNat, 0] = _
  rw [show (Scalar.indexCast (Scalar.addi (BitVec.ofNat 32 b) (Scalar.muli (Scf.iv 0#32 1#32 k.val) 128#32))).toNat = _ from this]

/-- A chunk put over the table, read at a slot. -/
theorem put_at (Y : FVec Ideal S4736x768 .f32) (o : ℕ) (v : FVec Ideal S128x768 .f32) (s : Fin 4736) (d : Fin 768) :
    VecWindow.put Y ![o, 0] S128x768.size v (ix2 s d) = if h : o ≤ s.val ∧ s.val < o + 128 then v (ix2 ⟨s.val - o, by omega⟩ d) else Y (ix2 s d) := by
  unfold VecWindow.put
  by_cases h : o ≤ s.val ∧ s.val < o + 128
  · have h' : ∀ a : Fin 2, ![o, 0] a ≤ ((ix2 s d : S4736x768.Idx) a).val ∧ ((ix2 s d : S4736x768.Idx) a).val < ![o, 0] a + S128x768.size a := by
      intro a
      match a with
      | ⟨0, _⟩ => exact h
      | ⟨1, _⟩ => exact ⟨Nat.zero_le _, by show d.val < 0 + 768; omega⟩
    rw [dif_pos h', dif_pos h]
    congr 1
    funext a
    match a with
    | ⟨0, _⟩ => rfl
    | ⟨1, _⟩ => rfl
  · rw [dif_neg h, dif_neg fun h' => h (h' 0)]

include hp0 hp1 hp hq in
/-- The slots an expert's first `n` chunks hold. -/
theorem chunks_at (e : Fin 64) (b : ℕ) (cn : BitVec 32) (hb : b + 128 * trips cn < 2 ^ 31) (Y : FVec Ideal S4736x768 .f32) (n : ℕ) (hn : n ≤ trips cn) (s : Fin 4736) (d : Fin 768) :
    chunks (F := Ideal) p0 p1 x (slabA w1 e.val) (slabB w2 e.val) (BitVec.ofNat 32 b) cn Y n (ix2 s d)
      = if b ≤ s.val ∧ s.val < b + 128 * n then mlp w1 w2 e (gath x p q s.val) d else Y (ix2 s d) := by
  induction n with
  | zero => rw [if_neg (by omega)]; rfl
  | succ n ih =>
    have hlt : n < trips cn := hn
    rw [chunks, dif_pos hlt]
    rw [off_eq b cn ⟨n, hlt⟩ (by show b + 128 * n < 2 ^ 31; omega), put_at]
    by_cases h : b + 128 * n ≤ s.val ∧ s.val < b + 128 * n + 128
    · rw [dif_pos h, if_pos (by omega), chunk_at p0 p1 x p q hp0 hp1 hp hq w1 w2 e b cn ⟨n, hlt⟩ _ d (by show b + 128 * n + (s.val - (b + 128 * n)) < 2 ^ 31; omega)]
      congr 2
      show b + 128 * n + (s.val - (b + 128 * n)) = s.val
      omega
    · rw [dif_neg h, ih (by omega)]
      by_cases h2 : b ≤ s.val ∧ s.val < b + 128 * n
      · rw [if_pos h2, if_pos (by omega)]
      · rw [if_neg h2, if_neg (by omega)]

variable (po cn : IVec S64 32) (a b : ℕ → ℕ)
  (hpo : ∀ e : Fin 64, po (ix1 e) = BitVec.ofNat 32 (base a b e.val)) (hcn : ∀ e : Fin 64, cn (ix1 e) = BitVec.ofNat 32 (cnt a b e.val))

/-- The number of chunks of an expert. -/
theorem trips_cnt (e : ℕ) : trips (BitVec.ofNat 32 (cnt a b e)) = (cnt a b e + 127) / 128 :=
  trips_word ⟨cnt a b e, Nat.lt_succ_of_le (cnt_le a b e)⟩

include hp0 hp1 hp hq hpo hcn in
/-- A slot of an expert's run, once the expert is done: what it gathers, through the expert. Later experts leave it alone, since their runs begin
    after it. -/
theorem table_at (E : ℕ) (hE : E ≤ 64) (e : Fin 64) (he : e.val < E) (s : Fin 4736) (h1 : base a b e.val ≤ s.val)
    (h2 : s.val < base a b e.val + cnt a b e.val) (d : Fin 768) :
    table (F := Ideal) po cn p0 p1 x w1 w2 E (ix2 s d) = mlp w1 w2 e (gath x p q s.val) d := by
  induction E with
  | zero => omega
  | succ E ih =>
    have hw : ∀ T : IVec S64 32, word (F := Ideal) T E = T (ix1 (⟨E, hE⟩ : Fin 64)) := fun T => by
      show T (ix1 (Fin.ofNat 64 E)) = _
      rw [show Fin.ofNat 64 E = (⟨E, hE⟩ : Fin 64) from Fin.ext (Nat.mod_eq_of_lt hE)]
    have ht := trips_cnt a b E
    have hbE := base_le a b E
    have hcE := cnt_le a b E
    rw [table, hw, hw, hpo, hcn, chunks_at p0 p1 x p q hp0 hp1 hp hq w1 w2 ⟨E, hE⟩ (base a b E) _ (by rw [ht]; omega) _ _ le_rfl s d, ht]
    rcases Nat.lt_succ_iff_lt_or_eq.mp he with hlt | heq
    · have := base_add_cnt a b hlt
      rw [if_neg (by omega)]
      exact ih (by omega) hlt
    · have hee : e = ⟨E, hE⟩ := Fin.ext heq
      subst hee
      rw [if_pos ⟨h1, by simp only at h2 ⊢; omega⟩]

/-- What the last four points of the grid compute: the weighted sum of a row's two slots. -/
theorem combine_at (v10 : IVec S512x1 32) (v14 : FVec Ideal S512x1 .f32) (v20 : IVec S512x1 32) (v24 : FVec Ideal S512x1 .f32) (Y : FVec Ideal S4736x768 .f32)
    (r : Fin 512) (d : Fin 768) (sA sB : Fin 4736) (hA : v10 (ix2 r 0) = BitVec.ofNat 32 sA.val) (hB : v20 (ix2 r 0) = BitVec.ofNat 32 sB.val) (hne : sA ≠ sB) :
    k1_pay4 (F := Ideal) v10 v14 v20 v24 Y (ix2 r d) = v14 (ix2 r 0) * Y (ix2 sA d) + v24 (ix2 r 0) * Y (ix2 sB d) := by
  pointwise [k1_pay4]
  have hs : ∀ (k s : Fin 4736) (y : EReal), Scalar.select (IntOp.cmpi CmpIPredicate.eq (BitVec.ofNat 32 k.val) (BitVec.ofNat 32 s.val)) y 0 = if k = s then y else 0 := fun k s y => by
    rw [eq_word (by omega) (by omega)]
    by_cases h : k = s
    · rw [if_pos h, h]; simp [Scalar.select]
    · rw [if_neg h, show decide (k.val = s.val) = false from decide_eq_false fun he => h (Fin.ext he)]
      rfl
  rw [hA, hB]
  simp only [hs]
  rw [← Finset.sum_subset (Finset.subset_univ {sA, sB}), Finset.sum_pair hne]
  · rw [if_pos rfl, if_neg hne, if_neg hne.symm, if_pos rfl, add_zero, zero_add (v24 _)]
  · intro k _ hk
    simp only [Finset.mem_insert, Finset.mem_singleton, not_or] at hk
    rw [if_neg hk.1, if_neg hk.2, add_zero, zero_mul]

end Cert.Moe

end
-- ==== Proof.Choice.lean ====
module

public import proofs.«01_k».proof.Proof.MoePure
public import Idealize.ShloMosaic.Lib.Pointwise
public import Idealize.ShloMosaic.Lib.SortPrefix
public import Idealize.ShloMosaic.Lib.SortNet.Extract
public import Idealize.ShloMosaic.Lib.WordArith

@[expose] public section

set_option maxRecDepth 16384

noncomputable section

namespace Cert.Moe

open Cert.KernelIdeal Cert.KernelIdeal.Gen
open Idealize.ShloMosaic Idealize.ShloMosaic.TcCoe

/-! # The two choices of a row of probabilities -/

/-- `m` is the first place of the greatest value of `f`. -/
def IsFirst (f : Fin 64 → EReal) (m : Fin 64) : Prop := (∀ e, f e ≤ f m) ∧ ∀ e, e < m → f e < f m

theorem exists_isFirst (f : Fin 64 → EReal) : ∃ m, IsFirst f m := by
  obtain ⟨m0, h0⟩ := Finite.exists_max f
  have hne : (Finset.univ.filter fun e => f e = f m0).Nonempty := ⟨m0, by simp⟩
  refine ⟨(Finset.univ.filter fun e => f e = f m0).min' hne, ?_⟩
  have hm := Finset.min'_mem _ hne
  simp only [Finset.mem_filter, Finset.mem_univ, true_and] at hm
  refine ⟨fun e => by rw [hm]; exact h0 e, fun e he => ?_⟩
  rw [hm]
  refine lt_of_le_of_ne (h0 e) fun h => ?_
  exact absurd (Finset.min'_le _ e (by simp [h])) (not_le.mpr he)

/-- The first choice. -/
def first (f : Fin 64 → EReal) : Fin 64 := (exists_isFirst f).choose
theorem first_spec (f : Fin 64 → EReal) : IsFirst f (first f) := (exists_isFirst f).choose_spec
/-- The values without the first choice's. -/
def rest (f : Fin 64 → EReal) (e : Fin 64) : EReal := if e = first f then ⊥ else f e
/-- The second choice. -/
def second (f : Fin 64 → EReal) : Fin 64 := first (rest f)

/-- The second choice differs from the first where every value is above the bottom. -/
theorem second_ne (f : Fin 64 → EReal) (h : ∀ e, f e ≠ ⊥) : second f ≠ first f := by
  intro hs
  have h1 := (first_spec (rest f)).1
  obtain ⟨e, he⟩ : ∃ e : Fin 64, e ≠ first f := ⟨first f + 1, by simp⟩
  have h2 := h1 e
  rw [show first (rest f) = first f from hs] at h2
  unfold rest at h2
  rw [if_neg he, if_pos rfl, le_bot_iff] at h2
  exact h e h2

/-- The pattern of minus infinity is the bottom. -/
theorem ofBits_neg_inf : Ideal.ofBits FTy.f32 4286578688#32 = ⊥ := by
  simp [Ideal.ofBits, Ideal.ieee]

/-- The greatest value is the first choice's. -/
theorem fold_max (f : Fin 64 → EReal) : Finset.univ.fold max ⊥ f = f (first f) := by
  refine le_antisymm ?_ ?_
  · rw [Finset.fold_max_le]
    exact ⟨bot_le, fun e _ => (first_spec f).1 e⟩
  · rw [Finset.le_fold_max]
    exact Or.inr ⟨first f, Finset.mem_univ _, le_rfl⟩

/-- The least number of a place of the greatest value, and 64 for the other places, is the first choice's number. -/
theorem fold_minsi (f : Fin 64 → EReal) :
    Finset.univ.fold IntOp.minsi (2147483647#32) (fun e : Fin 64 => if f e = f (first f) then BitVec.ofNat 32 e.val else 64#32)
      = BitVec.ofNat 32 (first f).val := by
  refine BitVec.eq_of_toInt_eq ?_
  rw [← Finset.fold_hom (op' := min) (m := BitVec.toInt) SortNet.toInt_minsi]
  have hn : ∀ e : Fin 64, (BitVec.ofNat 32 e.val).toInt = (e.val : ℤ) := fun e => WordArith.toInt_ofNat_small e.val (by omega)
  refine le_antisymm ?_ ?_
  · rw [Finset.fold_min_le]
    exact Or.inr ⟨first f, Finset.mem_univ _, by rw [if_pos rfl]⟩
  · rw [Finset.le_fold_min]
    refine ⟨by rw [hn]; have := (first f).isLt; exact (by omega : ((first f).val : ℤ) ≤ 2147483647), fun e _ => ?_⟩
    split
    · rename_i h
      rw [hn, hn]
      by_contra hlt
      exact absurd h (ne_of_lt ((first_spec f).2 e (by rw [Fin.lt_def]; omega)))
    · rw [hn]; have := (first f).isLt; exact (by omega : ((first f).val : ℤ) ≤ 64)

/-! ## The two greatest of a stable sort -/

/-- The stable sort by a key orders equal keys by place. -/
theorem stableSort_key (f : Fin 64 → EReal) (l : List (Fin 64)) (hl : l.Pairwise (· < ·)) :
    stableSort (fun k k' : Fin 64 => decide (f k' < f k)) l
      = stableSort (fun k k' : Fin 64 => decide (f k' < f k) || (decide (f k = f k') && decide (k < k'))) l := by
  induction l with
  | nil => rfl
  | cons a l ih =>
    rw [List.pairwise_cons] at hl
    rw [stableSort, stableSort, ih hl.2]
    refine insertBefore_congr _ _ _ _ fun b hb => ?_
    have hab := hl.1 b ((perm_stableSort _ l).mem_iff.mp hb)
    simp [not_lt.mpr hab.le]

/-- The stable sort by decreasing value puts the first choice first and the second choice second. -/
theorem sortedFrom_choices (f : Fin 64 → EReal) (h : ∀ e, f e ≠ ⊥) (i : Fin 2) :
    sortedFrom (fun k k' : Fin 64 => decide (f k' < f k)) (i.castLE (by decide)) = ![first f, second f] i := by
  have hord := StrictTotalBefore.of_key_then_position (n := 64) (κ := EReal) (fun a b => decide (b < a)) f (by simp)
    (fun a b c hab hbc => by simp only [decide_eq_true_eq] at *; exact hbc.trans hab)
    (fun a b => by simp only [decide_eq_true_eq]; rcases lt_trichotomy a b with h | h | h <;> simp [h])
  have hne := second_ne f h
  have h1 := first_spec f
  have h2 := first_spec (rest f)
  have hsec : f (second f) = rest f (second f) := by unfold rest; rw [if_neg hne]
  have hle : ∀ p, p ≠ first f → f p ≤ f (second f) := fun p hp => by
    have := h2.1 p
    rw [show rest f p = f p from if_neg hp] at this
    exact this.trans hsec.ge
  have hlt : ∀ p, p ≠ first f → p < second f → f p < f (second f) := fun p hp hps => by
    have := h2.2 p hps
    rw [show rest f p = f p from if_neg hp] at this
    exact this.trans_le hsec.ge
  have key : ∀ p q : Fin 64, f p ≤ f q → (p < q → f p < f q) →
      (decide (f q < f p) || (decide (f p = f q) && decide (p < q))) = false := fun p q h3 h4 => by
    by_cases hp : p < q
    · simp [h3, (h4 hp).ne]
    · simp [h3, hp]
  have := hord.sortedFrom_eq_of_prefix (k := 2) (by decide) ![first f, second f]
    (by
      intro i j hij
      fin_cases i <;> fin_cases j <;> simp_all)
    (by
      intro i j hij
      fin_cases i <;> fin_cases j <;> first | exact absurd hij (by decide) | exact key _ _ (h1.1 _) (h1.2 _))
    (by
      intro i p hp
      have hp0 : p ≠ first f := fun e => hp 0 e.symm
      fin_cases i
      · exact key _ _ (h1.1 _) (h1.2 _)
      · exact key _ _ (hle p hp0) (hlt p hp0)) i
  rw [← this]
  exact List.get_of_eq (stableSort_key f (List.finRange 64) (List.pairwise_lt_finRange 64)) _

end Cert.Moe

end
-- ==== Proof.Router.lean ====
module

public import proofs.«01_k».proof.Proof.Words
public import proofs.«01_k».proof.Proof.Choice
public import proofs.«01_k».proof.Proof.Slots

@[expose] public section

set_option maxRecDepth 16384

noncomputable section

namespace Cert.Moe

open Cert.KernelIdeal Cert.KernelIdeal.Gen
open Idealize.ShloMosaic Idealize.ShloMosaic.TcCoe

open Cert.Moe.Slots

/-! # What the routing kernel computes, in natural numbers -/

variable (x : FVec Ideal S2048x768 .f32) (w : FVec Ideal S768x64 .f32)

/-- Row `i`'s probabilities. -/
def prob (i : Fin 2048) (e : Fin 64) : EReal := k0_pay5 (F := Ideal) x w (ix2 i e)
/-- The expert a row chooses first. -/
def chA (i : ℕ) : ℕ := (first (prob x w (Fin.ofNat 2048 i))).val
/-- The expert a row chooses second. -/
def chB (i : ℕ) : ℕ := (second (prob x w (Fin.ofNat 2048 i))).val

theorem chA_val (i : Fin 2048) : chA x w i.val = (first (prob x w i)).val := by rw [chA, Fin.ofNat_val_eq_self]
theorem chB_val (i : Fin 2048) : chB x w i.val = (second (prob x w i)).val := by rw [chB, Fin.ofNat_val_eq_self]

/-- The greatest probability. -/
theorem pay6_at (i : Fin 2048) : k0_pay6 (F := Ideal) x w (ix2 i 0) = prob x w i (first (prob x w i)) := by
  pointwise [k0_pay6]
  rw [ofBits_neg_inf]
  exact fold_max (prob x w i)

/-- The first choice's number. -/
theorem pay7_at (i : Fin 2048) : k0_pay7 (F := Ideal) x w (ix2 i 0) = BitVec.ofNat 32 (first (prob x w i)).val := by
  pointwise [k0_pay7]
  rw [pay6_at]
  exact fold_minsi (prob x w i)

/-- The probabilities without the first choice's. -/
theorem pay8_at (i : Fin 2048) (e : Fin 64) : k0_pay8 (F := Ideal) x w (ix2 i e) = rest (prob x w i) e := by
  pointwise [k0_pay8]
  rw [pay7_at, eq_word (by omega) (by omega), ofBits_neg_inf, rest]
  by_cases h : e = first (prob x w i)
  · rw [if_pos h, h]; simp [Scalar.select]
  · rw [if_neg h, show decide ((e : ℕ) = ((first (prob x w i) : Fin 64) : ℕ)) = false from decide_eq_false fun he => h (Fin.ext he)]
    rfl

/-- The second greatest probability. -/
theorem pay9_at (i : Fin 2048) : k0_pay9 (F := Ideal) x w (ix2 i 0) = rest (prob x w i) (second (prob x w i)) := by
  pointwise [k0_pay9]
  rw [ofBits_neg_inf]
  simp only [pay8_at]
  exact fold_max (rest (prob x w i))

/-- The second choice's number. -/
theorem pay10_at (i : Fin 2048) : k0_pay10 (F := Ideal) x w (ix2 i 0) = BitVec.ofNat 32 (second (prob x w i)).val := by
  pointwise [k0_pay10]
  simp only [pay9_at, pay8_at]
  exact fold_minsi (rest (prob x w i))

/-- The first choices as zeros and ones. -/
theorem ohA_at (i : Fin 2048) (e : Fin 64) : ohA (F := Ideal) x w (ix2 i e) = ((hit (chA x w) i.val e.val : ℕ) : EReal) := by
  pointwise [ohA, k0_pay15, k0_pay14, iotaE]
  rw [pay7_at, eq_word (by omega) (by omega), sitofp_bool, hit, chA_val]
  simp only [eq_comm]

/-- The second choices as zeros and ones. -/
theorem ohB_at (i : Fin 2048) (e : Fin 64) : ohB (F := Ideal) x w (ix2 i e) = ((hit (chB x w) i.val e.val : ℕ) : EReal) := by
  pointwise [ohB, k0_pay16, iotaE]
  rw [pay10_at, eq_word (by omega) (by omega), sitofp_bool, hit, chB_val]
  simp only [eq_comm]

/-- The zeros and ones of a column add up to the count. -/
theorem sum_hit_cast (a : ℕ → ℕ) (e : ℕ) : (∑ i : Fin 2048, ((hit a i.val e : ℕ) : EReal)) = ((pre a 2048 e : ℕ) : EReal) := by
  rw [pre, Finset.sum_range, Nat.cast_sum]

/-- A small number in a vector is converted to its word. -/
theorem fptosi_at {n : ℕ} (h : n < 2 ^ 31) : FloatOps.fptosi (F := Ideal) (φ := FTy.f32) 32 ((n : ℕ) : EReal) = BitVec.ofNat 32 n := fptosi_nat h

/-- The counts. -/
theorem cntF_at (e : Fin 64) : cntF (F := Ideal) x w (ix2 0 e) = ((cnt (chA x w) (chB x w) e.val : ℕ) : EReal) := by
  have h : cntF (F := Ideal) x w (ix2 0 e) = (∑ i : Fin 2048, ohA (F := Ideal) x w (ix2 i e)) + ∑ i : Fin 2048, ohB (F := Ideal) x w (ix2 i e) := by
    pointwise [cntF, k0_pay17, ohA, ohB]
  rw [h]
  simp only [ohA_at, ohB_at, sum_hit_cast]
  rw [cnt, Nat.cast_add]

/-- The lengths of the runs. -/
theorem pay18_at (e : Fin 64) : k0_pay18 (F := Ideal) iotaE (k0_pay10 (F := Ideal) x w) (k0_pay14 (F := Ideal) x w) (ix2 0 e) = BitVec.ofNat 32 (pad (chA x w) (chB x w) e.val) := by
  pointwise [k0_pay18]
  have h : k0_pay17 (F := Ideal) iotaE (k0_pay10 (F := Ideal) x w) (k0_pay14 (F := Ideal) x w) (ix2 0 e) = _ := cntF_at x w e
  have hc := cnt_le (chA x w) (chB x w) e.val
  simp only [h, fptosi_at (show cnt (chA x w) (chB x w) e.val < 2 ^ 31 by omega)]
  exact pad_word ⟨cnt (chA x w) (chB x w) e.val, Nat.lt_succ_of_le hc⟩

/-- A sum over the earlier experts, as the strict triangle of ones makes it. -/
theorem tri_sum (f : ℕ → ℕ) (e : Fin 64) :
    (∑ k : Fin 64, ((f k.val : ℕ) : EReal) * (((if k.val < e.val then 1 else 0 : ℕ)) : EReal)) = ((∑ k ∈ Finset.range e.val, f k : ℕ) : EReal) := by
  rw [show (∑ k ∈ Finset.range e.val, f k) = ∑ k ∈ Finset.range 64, f k * (if k < e.val then 1 else 0) from ?_, Finset.sum_range, Nat.cast_sum]
  · exact Finset.sum_congr rfl fun k _ => (EReal.natCast_mul _ _).symm
  · simp only [mul_ite, mul_one, mul_zero]
    rw [← Finset.sum_filter]
    refine Finset.sum_congr (Finset.ext fun k => ?_) fun _ _ => rfl
    simp only [Finset.mem_range, Finset.mem_filter]
    omega

/-- The pattern of 256. -/
theorem ofBits_256 : Ideal.ofBits FTy.f32 1132462080#32 = ((256 : ℕ) : EReal) := by
  rw [show ((256 : ℕ) : EReal) = ((256 : ℝ) : EReal) by norm_cast]
  simp [Ideal.ofBits, Ideal.ieee, -EReal.coe_mul]; norm_num

/-- The first slots. -/
theorem baseF_at (e : Fin 64) : baseF (F := Ideal) x w (ix2 0 e) = ((base (chA x w) (chB x w) e.val : ℕ) : EReal) := by
  pointwise [baseF, k0_pay21, k0_pay19, k0_pay20]
  have hp : ∀ k : Fin 64, pad (chA x w) (chB x w) k.val < 4104 := fun k => by
    have h1 := cnt_le (chA x w) (chB x w) k.val
    have h2 := pad_le (chA x w) (chB x w) k.val
    omega
  have hhi := fun k : Fin 64 => hi_word ⟨_, hp k⟩
  have hlo := fun k : Fin 64 => lo_word ⟨_, hp k⟩
  simp only at hhi hlo
  simp only [pay18_at, hhi, hlo]
  simp only [fun k : Fin 64 => slt_word (a := k.val) (b := e.val) (by omega) (by omega), sitofp_bool,
    fun k : Fin 64 => sitofp_nat (n := pad (chA x w) (chB x w) k.val / 256) (by have := hp k; omega),
    fun k : Fin 64 => sitofp_nat (n := pad (chA x w) (chB x w) k.val % 256) (by have := hp k; omega)]
  rw [tri_sum (fun k => pad (chA x w) (chB x w) k / 256), tri_sum (fun k => pad (chA x w) (chB x w) k % 256), ofBits_256,
    ← EReal.natCast_mul, ← Nat.cast_add, base, Finset.mul_sum, ← Finset.sum_add_distrib]
  congr 1
  exact Finset.sum_congr rfl fun k _ => Nat.div_add_mod _ _

/-- The table of counts. -/
theorem cntI_at (e : Fin 64) : cntI (F := Ideal) x w (ix2 0 e) = BitVec.ofNat 32 (cnt (chA x w) (chB x w) e.val) := by
  pointwise [cntI, k0_pay3]
  have hc := cnt_le (chA x w) (chB x w) e.val
  rw [cntF_at, fptosi_at (by omega)]

/-- The table of first slots. -/
theorem baseI_at (e : Fin 64) : baseI (F := Ideal) x w (ix2 0 e) = BitVec.ofNat 32 (base (chA x w) (chB x w) e.val) := by
  pointwise [baseI, k0_pay4]
  have hc := base_le (chA x w) (chB x w) e.val
  rw [baseF_at, fptosi_at (by omega)]

end Cert.Moe

end
-- ==== Proof.Prefix.lean ====
module

public import proofs.«01_k».proof.Proof.Words
public import proofs.«01_k».proof.Proof.Slots

@[expose] public section

set_option maxRecDepth 16384

noncomputable section

namespace Cert.Moe

open Cert.KernelIdeal Cert.KernelIdeal.Gen
open Idealize.ShloMosaic Idealize.ShloMosaic.TcCoe

open Cert.Moe.Slots

/-! # The running counts

Both tables of running counts are made of sixteen blocks of 128 rows: a lower triangle of ones adds up the rows of a block, and the total of the
earlier blocks is added. -/

/-- The first `n` terms of a sequence after a start. -/
def runSum (T : ℕ) (H : ℕ → ℕ) (n : ℕ) : ℕ := T + ∑ j ∈ Finset.range n, H j

/-- The rows of the block at `o` up to its `r`-th. -/
def partSum (H : ℕ → ℕ) (o r : ℕ) : ℕ := ∑ k : Fin 128, if k.val ≤ r then H (o + k.val) else 0

theorem partSum_eq (H : ℕ → ℕ) (o r : ℕ) (hr : r < 128) : partSum H o r = ∑ k ∈ Finset.range (r + 1), H (o + k) := by
  unfold partSum
  rw [← Finset.sum_range (fun k => if k ≤ r then H (o + k) else 0), ← Finset.sum_filter]
  refine Finset.sum_congr (Finset.ext fun k => ?_) fun _ _ => rfl
  simp only [Finset.mem_range, Finset.mem_filter]
  omega

theorem part_add (T : ℕ) (H : ℕ → ℕ) (o r n : ℕ) (hr : r < 128) (hn : o + r + 1 = n) : partSum H o r + runSum T H o = runSum T H n := by
  rw [partSum_eq H o r hr, runSum, runSum, ← hn, add_assoc o r 1]
  have := Finset.sum_range_add H o (r + 1)
  omega

theorem add_part (T : ℕ) (H : ℕ → ℕ) (o : ℕ) : runSum T H o + partSum H o 127 = runSum T H (o + 128) := by
  rw [add_comm, part_add T H o 127 _ (by omega) rfl]

/-- A row of the lower triangle of ones adds up a block. -/
theorem tri_block (H : ℕ → ℕ) (o r : ℕ) (hr : r < 2 ^ 31) :
    (∑ k : Fin 128, FloatOps.sitofp (F := Ideal) FTy.f32 (BitVec.setWidth 32 (IntOp.cmpi CmpIPredicate.sge (BitVec.ofNat 32 r) (BitVec.ofNat 32 k.val)))
      * ((H (o + k.val) : ℕ) : EReal)) = ((partSum H o r : ℕ) : EReal) := by
  rw [partSum, Nat.cast_sum]
  refine Finset.sum_congr rfl fun k _ => ?_
  rw [sge_word hr (by omega), sitofp_bool, ← EReal.natCast_mul, ite_mul, one_mul, zero_mul]

/-- The last row of the lower triangle of ones adds up a whole block. -/
theorem tri_last (H : ℕ → ℕ) (o : ℕ) :
    (∑ k : Fin 128, FloatOps.sitofp (F := Ideal) FTy.f32 (BitVec.setWidth 32 (IntOp.cmpi CmpIPredicate.sge 127#32 (BitVec.ofNat 32 k.val)))
      * ((H (o + k.val) : ℕ) : EReal)) = ((partSum H o 127 : ℕ) : EReal) := tri_block H o 127 (by omega)

/-- The first block begins at nothing. -/
theorem tri_block0 (H : ℕ → ℕ) (r : ℕ) (hr : r < 2 ^ 31) :
    (∑ k : Fin 128, FloatOps.sitofp (F := Ideal) FTy.f32 (BitVec.setWidth 32 (IntOp.cmpi CmpIPredicate.sge (BitVec.ofNat 32 r) (BitVec.ofNat 32 k.val)))
      * ((H k.val : ℕ) : EReal)) = ((partSum H 0 r : ℕ) : EReal) := by
  have := tri_block H 0 r hr
  simpa only [zero_add] using this

theorem tri_last0 (H : ℕ → ℕ) :
    (∑ k : Fin 128, FloatOps.sitofp (F := Ideal) FTy.f32 (BitVec.setWidth 32 (IntOp.cmpi CmpIPredicate.sge 127#32 (BitVec.ofNat 32 k.val)))
      * ((H k.val : ℕ) : EReal)) = ((partSum H 0 127 : ℕ) : EReal) := tri_block0 H 127 (by omega)

theorem part_zero (H : ℕ → ℕ) : partSum H 0 127 = runSum 0 H 128 := by
  have := add_part 0 H 0
  simpa only [runSum, Finset.range_zero, Finset.sum_empty, zero_add] using this

theorem start_add (T : ℕ) (H : ℕ → ℕ) : T + partSum H 0 127 = runSum T H 128 := by
  have := add_part T H 0
  simpa only [runSum, Finset.range_zero, Finset.sum_empty, zero_add, add_zero] using this

theorem part_start (T : ℕ) (H : ℕ → ℕ) (r : ℕ) (hr : r < 128) : partSum H 0 r + T = runSum T H (r + 1) := by
  have := part_add T H 0 r (r + 1) hr (by omega)
  simpa only [runSum, Finset.range_zero, Finset.sum_empty, add_zero] using this

theorem part_first (H : ℕ → ℕ) (r : ℕ) (hr : r < 128) : partSum H 0 r = runSum 0 H (r + 1) := by
  rw [← part_start 0 H r hr, add_zero]

attribute [local irreducible] partSum runSum

/-- A choice between two equal things. -/
theorem dite_eq_of {α : Type} {c : Prop} [Decidable c] {A : c → α} {B : ¬c → α} {z : α} (hA : ∀ hc, A hc = z) (hB : ∀ hc, B hc = z) : dite c A B = z := by
  by_cases hc : c
  · rw [dif_pos hc, hA]
  · rw [dif_neg hc, hB]

variable (h : FVec Ideal S2048x64 .f32) (e : Fin 64) (H : ℕ → ℕ)

/-- The counts of the first choices: the last block's total. -/
theorem totA_at (hh : ∀ i : Fin 2048, h (ix2 i e) = ((H i.val : ℕ) : EReal)) : totA (F := Ideal) h (ix2 0 e) = ((runSum 0 H 2048 : ℕ) : EReal) := by
  pointwise [totA, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [hh, tri_last0, tri_last, ← Nat.cast_add, part_zero, add_part, Nat.reduceAdd]

/-- The running counts of the first choices. -/
theorem preA_at (hh : ∀ i : Fin 2048, h (ix2 i e) = ((H i.val : ℕ) : EReal)) (i : Fin 2048) :
    preA (F := Ideal) h (ix2 i e) = ((runSum 0 H (i.val + 1) : ℕ) : EReal) := by
  pointwise [preA, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  repeat' refine dite_eq_of (fun _ => ?_) (fun _ => ?_)
  all_goals simp (disch := omega) only [hh, tri_last0, tri_last, tri_block0, tri_block, ← Nat.cast_add, part_zero, add_part, Nat.reduceAdd]
  all_goals first
    | exact congrArg (fun n : ℕ => (n : EReal)) (part_first H _ (by omega))
    | exact congrArg (fun n : ℕ => (n : EReal)) (part_add 0 H _ _ _ (by omega) (by omega))

/-- The running counts of the second choices, which follow `T` first ones, at the rows' own choices. -/
theorem preB_at (t : FVec Ideal S1x64 .f32) (T : ℕ) (ht : t (ix2 0 e) = ((T : ℕ) : EReal))
    (hh : ∀ i : Fin 2048, h (ix2 i e) = ((H i.val : ℕ) : EReal)) (i : Fin 2048) :
    preB (F := Ideal) h t (ix2 i e) = ((H i.val : ℕ) : EReal) * ((runSum T H (i.val + 1) : ℕ) : EReal) := by
  pointwise [preB, k0_pay22, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]
  rw [hh]
  refine congrArg (((H i.val : ℕ) : EReal) * ·) ?_
  repeat' refine dite_eq_of (fun _ => ?_) (fun _ => ?_)
  all_goals simp (disch := omega) only [hh, ht, tri_last0, tri_last, tri_block0, tri_block, ← Nat.cast_add, start_add, add_part, Nat.reduceAdd]
  all_goals first
    | exact congrArg (fun n : ℕ => (n : EReal)) (part_start T H _ (by omega))
    | exact congrArg (fun n : ℕ => (n : EReal)) (part_add T H _ _ _ (by omega) (by omega))

end Cert.Moe

end
-- ==== Proof.SlotWords.lean ====
module

public import proofs.«01_k».proof.Proof.Router
public import proofs.«01_k».proof.Proof.Prefix

@[expose] public section

set_option maxRecDepth 16384

noncomputable section

namespace Cert.Moe

open Cert.KernelIdeal Cert.KernelIdeal.Gen
open Idealize.ShloMosaic Idealize.ShloMosaic.TcCoe

open Cert.Moe.Slots

/-! # The slots the routing kernel computes -/

/-- A row of zeros and one picks the value at its choice. -/
theorem pick (a : ℕ → ℕ) (i : ℕ) (ha : a i < 64) (f : ℕ → ℕ) :
    (∑ k : Fin 64, ((hit a i k.val : ℕ) : EReal) * ((f k.val : ℕ) : EReal)) = ((f (a i) : ℕ) : EReal) := by
  have : f (a i) = ∑ k : Fin 64, hit a i k.val * f k.val := by
    rw [← Finset.sum_range (fun k => hit a i k * f k)]
    simp only [hit, ite_mul, one_mul, zero_mul]
    rw [Finset.sum_ite_eq, if_pos (Finset.mem_range.mpr ha)]
  rw [this, Nat.cast_sum]
  exact Finset.sum_congr rfl fun k _ => (EReal.natCast_mul _ _).symm

/-- One less than the next number. -/
theorem succ_sub_one (n : ℕ) : (((n + 1 : ℕ) : EReal)) - 1 = ((n : ℕ) : EReal) := by
  rw [← EReal.coe_natCast, ← EReal.coe_natCast, ← EReal.coe_one, ← EReal.coe_sub]
  congr 1
  push_cast
  ring

variable (x : FVec Ideal S2048x768 .f32) (w : FVec Ideal S768x64 .f32)

theorem chA_lt (i : ℕ) : chA x w i < 64 := (first _).isLt
theorem chB_lt (i : ℕ) : chB x w i < 64 := (second _).isLt

theorem runSum_hit (a : ℕ → ℕ) (T i : ℕ) : runSum T (fun j => hit a j (a i)) (i + 1) = (T + pre a i (a i)) + 1 := by
  rw [runSum, Finset.sum_range_succ, hit_self, pre]; omega

/-- The slots of the first choices. -/
theorem slotA_at (i : Fin 2048) : slotA (F := Ideal) x w (ix2 i 0) = BitVec.ofNat 32 (slA (chA x w) (chB x w) i.val) := by
  pointwise [slotA, k0_pay1, k0_pay65]
  have hp : ∀ k : Fin 64, preA (F := Ideal) (ohA x w) (ix2 i k) = _ := fun k => preA_at (ohA x w) k (fun j => hit (chA x w) j k.val) (fun j => ohA_at x w j k) i
  simp only [ohA_at, baseF_at, hp]
  rw [pick (chA x w) i.val (chA_lt x w _) (base (chA x w) (chB x w)), pick (chA x w) i.val (chA_lt x w _) (fun k => runSum 0 (fun j => hit (chA x w) j k) (i.val + 1)),
    runSum_hit, succ_sub_one, ← Nat.cast_add, zero_add]
  refine fptosi_at ?_
  have h1 := slA_lt_cnt (a := chA x w) (b := chB x w) i.isLt
  have h2 := base_le (chA x w) (chB x w) (chA x w i.val)
  have h3 := cnt_le (chA x w) (chB x w) (chA x w i.val)
  have h4 := chA_lt x w i.val
  unfold slA at h1
  omega

/-- The slots of the second choices. -/
theorem slotB_at (i : Fin 2048) : slotB (F := Ideal) x w (ix2 i 0) = BitVec.ofNat 32 (slB (chA x w) (chB x w) i.val) := by
  pointwise [slotB, k0_pay2]
  have ht : ∀ k : Fin 64, totA (F := Ideal) (ohA x w) (ix2 0 k) = ((pre (chA x w) 2048 k.val : ℕ) : EReal) := fun k => by
    rw [totA_at (ohA x w) k (fun j => hit (chA x w) j k.val) (fun j => ohA_at x w j k), runSum, zero_add, pre]
  have hp : ∀ k : Fin 64, preB (F := Ideal) (ohB x w) (totA (ohA x w)) (ix2 i k) = _ := fun k =>
    preB_at (ohB x w) k (fun j => hit (chB x w) j k.val) (totA (ohA x w)) _ (ht k) (fun j => ohB_at x w j k) i
  simp only [ohB_at, baseF_at, hp]
  rw [pick (chB x w) i.val (chB_lt x w _) (base (chA x w) (chB x w)),
    pick (chB x w) i.val (chB_lt x w _) (fun k => runSum (pre (chA x w) 2048 k) (fun j => hit (chB x w) j k) (i.val + 1)),
    runSum_hit, succ_sub_one, ← Nat.cast_add]
  refine fptosi_at ?_
  have h1 := slB_lt (a := chA x w) (b := chB x w) i.isLt
  have h2 := base_le (chA x w) (chB x w) (chB x w i.val)
  have h3 := cnt_le (chA x w) (chB x w) (chB x w i.val)
  have h4 := chB_lt x w i.val
  unfold slB at h1
  omega

end Cert.Moe

end
-- ==== Proof.Rows.lean ====
module

public import proofs.«01_k».proof.Proof.Table
public import proofs.«01_k».proof.Proof.SlotWords

@[expose] public section

set_option maxRecDepth 16384

noncomputable section

namespace Cert.Moe

open Cert.KernelIdeal Cert.KernelIdeal.Gen
open Idealize.ShloMosaic Idealize.ShloMosaic.TcCoe

open Slots

/-! ## The checks of the expert kernel -/

/-- Where an expert's first slot is a multiple of eight and its chunks end within the table, the kernel's checks pass. -/
theorem chk1_of (i : grid1.Coords) (b n : ℕ) (h8 : 8 ∣ b) (hn : n ≤ 4096) (hb : b + 128 * ((n + 127) / 128) ≤ 4736) :
    k1_chk1 i (BitVec.ofNat 32 b) (BitVec.ofNat 32 n) := by
  have hok := ok_word ⟨n, by omega⟩
  have ht : trips (BitVec.ofNat 32 n) = (n + 127) / 128 := trips_word ⟨n, by omega⟩
  have hk : ∀ k : Fin (k1_t1_loop (BitVec.ofNat 32 n)).trips, k.val < (n + 127) / 128 := fun k => ht ▸ k.isLt
  have h0 : ∀ k : Fin (k1_t2_loop (BitVec.ofNat 32 n)).trips, False := fun k => by
    have h := k.isLt
    have h0 := noTrips2 (BitVec.ofNat 32 n)
    omega
  refine ⟨fun _ => hok.1, fun k _ => ?_, fun k _ a => ?_, fun _ => hok.2, fun k => (h0 k).elim, fun k => (h0 k).elim⟩
  · have := hk k
    show 8 ∣ (Scalar.addi (BitVec.ofNat 32 b) (Scalar.muli (Scf.iv 0#32 1#32 k.val) 128#32)).toNat
    rw [chunk_word, WordArith.toNat_ofNat_of_lt _ (by omega)]
    omega
  · have := hk k
    rw [off_eq b _ k (by omega)]
    match a with
    | ⟨0, _⟩ => show b + 128 * k.val + 128 ≤ 4736; omega
    | ⟨1, _⟩ => show 0 + 768 ≤ 768; omega

/-- The same for the second expert of a point. -/
theorem chk2_of (i : grid1.Coords) (b n : ℕ) (h8 : 8 ∣ b) (hn : n ≤ 4096) (hb : b + 128 * ((n + 127) / 128) ≤ 4736) :
    k1_chk2 i (BitVec.ofNat 32 b) (BitVec.ofNat 32 n) := chk1_of i b n h8 hn hb

/-- An expert's chunks end within the table. -/
theorem chunks_end (a b : ℕ → ℕ) (e : Fin 64) : base a b e.val + 128 * ((cnt a b e.val + 127) / 128) ≤ 4736 := by
  have h1 := base_add_cnt a b (Nat.lt_add_one e.val)
  have h2 := base_le a b (e.val + 1)
  omega

/-! ## The table at a row's slots -/

variable (x : FVec Ideal S2048x768 .f32) (w : FVec Ideal S768x64 .f32) (w1 : FVec Ideal S64x768x512 .f32) (w2 : FVec Ideal S64x512x768 .f32)

theorem slotA_lt (i : Fin 2048) : slA (chA x w) (chB x w) i.val < 4736 := by
  have h1 := slA_lt_cnt (a := chA x w) (b := chB x w) i.isLt
  have h2 := chunks_end (chA x w) (chB x w) ⟨_, chA_lt x w i.val⟩
  simp only at h2
  omega
theorem slotB_lt (i : Fin 2048) : slB (chA x w) (chB x w) i.val < 4736 := by
  have h1 := slB_lt (a := chA x w) (b := chB x w) i.isLt
  have h2 := chunks_end (chA x w) (chB x w) ⟨_, chB_lt x w i.val⟩
  simp only at h2
  omega

/-- The first slot of row `i`. -/
def sA (i : Fin 2048) : Fin 4736 := ⟨slA (chA x w) (chB x w) i.val, slotA_lt x w i⟩
/-- The second slot of row `i`. -/
def sB (i : Fin 2048) : Fin 4736 := ⟨slB (chA x w) (chB x w) i.val, slotB_lt x w i⟩
theorem sA_ne_sB (i : Fin 2048) : sA x w i ≠ sB x w i := fun h => slA_ne_slB i.isLt i.isLt (Fin.ext_iff.mp h)

variable (po cn : IVec S64 32) (p0 p1 : IVec S1x2048 32)
  (hpo : ∀ e : Fin 64, po (ix1 e) = BitVec.ofNat 32 (base (chA x w) (chB x w) e.val))
  (hcn : ∀ e : Fin 64, cn (ix1 e) = BitVec.ofNat 32 (cnt (chA x w) (chB x w) e.val))
  (hp0 : ∀ t : Fin 2048, p0 (ix2 0 t) = BitVec.ofNat 32 (slA (chA x w) (chB x w) t.val))
  (hp1 : ∀ t : Fin 2048, p1 (ix2 0 t) = BitVec.ofNat 32 (slB (chA x w) (chB x w) t.val))
include hpo hcn hp0 hp1

/-- At a row's first slot the table holds the network of its first expert at the row. -/
theorem table_A (i : Fin 2048) (d : Fin 768) :
    table (F := Ideal) po cn p0 p1 x w1 w2 64 (ix2 (sA x w i) d) = mlp w1 w2 (first (prob x w i)) (fun c => x (ix2 i c)) d := by
  have hv := chA_val x w i
  rw [table_at p0 p1 x (slA (chA x w) (chB x w)) (slB (chA x w) (chB x w)) hp0 hp1 (fun t => by have := slotA_lt x w t; omega) (fun t => by have := slotB_lt x w t; omega)
    w1 w2 po cn (chA x w) (chB x w) hpo hcn 64 le_rfl (first (prob x w i)) (first (prob x w i)).isLt (sA x w i)
    (by rw [← hv]; exact Nat.le_add_right _ _) (by rw [← hv]; exact slA_lt_cnt i.isLt) d]
  congr 1; funext c
  exact gath_eq x _ _ _ i (.inl rfl) (fun t h => h.elim (fun h => Fin.ext (slA_inj t.isLt i.isLt h)) fun h => absurd h.symm (slA_ne_slB i.isLt t.isLt)) c

/-- At a row's second slot the table holds the network of its second expert at the row. -/
theorem table_B (i : Fin 2048) (d : Fin 768) :
    table (F := Ideal) po cn p0 p1 x w1 w2 64 (ix2 (sB x w i) d) = mlp w1 w2 (second (prob x w i)) (fun c => x (ix2 i c)) d := by
  have hv := chB_val x w i
  rw [table_at p0 p1 x (slA (chA x w) (chB x w)) (slB (chA x w) (chB x w)) hp0 hp1 (fun t => by have := slotA_lt x w t; omega) (fun t => by have := slotB_lt x w t; omega)
    w1 w2 po cn (chA x w) (chB x w) hpo hcn 64 le_rfl (second (prob x w i)) (second (prob x w i)).isLt (sB x w i)
    (by rw [← hv]; exact Nat.le_add_right _ _) (by rw [← hv]; exact slB_lt i.isLt) d]
  congr 1; funext c
  exact gath_eq x _ _ _ i (.inr rfl) (fun t h => h.elim (fun h => absurd h (slA_ne_slB t.isLt i.isLt)) fun h => Fin.ext (slB_inj t.isLt i.isLt h)) c

omit hpo hcn hp0 hp1 in
/-- The result of the kernel at a row and column: the two chosen experts' networks at the row, weighted. -/
def outAt (i : Fin 2048) (d : Fin 768) : EReal :=
  k0_pay12 (F := Ideal) x w (ix2 i 0) * mlp w1 w2 (first (prob x w i)) (fun c => x (ix2 i c)) d
    + k0_pay13 (F := Ideal) x w (ix2 i 0) * mlp w1 w2 (second (prob x w i)) (fun c => x (ix2 i c)) d

/-- What the last points write: at row `r` of a block standing at row `i` of the result, the kernel's result there. -/
theorem block_at (v10 v20 : IVec S512x1 32) (v14 v24 : FVec Ideal S512x1 .f32) (r : Fin 512) (i : Fin 2048) (d : Fin 768)
    (h10 : v10 (ix2 r 0) = slotA (F := Ideal) x w (ix2 i 0)) (h20 : v20 (ix2 r 0) = slotB (F := Ideal) x w (ix2 i 0))
    (h14 : v14 (ix2 r 0) = k0_pay12 (F := Ideal) x w (ix2 i 0)) (h24 : v24 (ix2 r 0) = k0_pay13 (F := Ideal) x w (ix2 i 0)) :
    k1_pay4 (F := Ideal) v10 v14 v20 v24 (table (F := Ideal) po cn p0 p1 x w1 w2 64) (ix2 r d) = outAt x w w1 w2 i d := by
  rw [combine_at v10 v14 v20 v24 _ r d (sA x w i) (sB x w i) (h10.trans (slotA_at x w i)) (h20.trans (slotB_at x w i)) (sA_ne_sB x w i),
    h14, h24, table_A x w w1 w2 po cn p0 p1 hpo hcn hp0 hp1, table_B x w w1 w2 po cn p0 p1 hpo hcn hp0 hp1]
  rfl

end Cert.Moe

end
-- ==== Proof.Reads.lean ====
module

public import proofs.«01_k».proof.Proof.Launch
public import proofs.«01_k».proof.Proof.Rows
public import Idealize.ShloMosaic.Lib.Pipeline.ValueKit

@[expose] public section

set_option maxRecDepth 16384

noncomputable section

namespace Cert.Moe

open Cert.KernelIdeal Cert.KernelIdeal.Gen
open Idealize.ShloMosaic Idealize.ShloMosaic.TcCoe

open Slots
open Idealize.ShloMosaic.Pipeline (Dat)

variable (m : (ℓ : Loc nD τ sig) → Buf (Elt Ideal) ℓ)

/-- The tokens, one row each. -/
def xs (c : Dev nD) : FVec Ideal S2048x768 .f32 := U1 m c main_v0
/-- The routing weights. -/
def wr (c : Dev nD) : FVec Ideal S768x64 .f32 := m ((c : Thread nD τ).loc main_arg1)

theorem stgX0_eq (c : Dev nD) : stgX0 (fun c b => U1 m c b) c = xs m c := by
  funext y
  show U1 m c main_v0 _ = U1 m c main_v0 _
  congr 1; funext ax; apply Fin.ext
  show 0 * S2048x768.size ax + 1 * (y ax).val = (y ax).val
  omega
theorem stgW0_eq (c : Dev nD) : stgW0 (fun c b => U1 m c b) c = wr m c := by
  have h : U1 m c main_arg1 = m ((c : Thread nD τ).loc main_arg1) := StableHlo.after_of_writes_sub hostOps0 _ hostOps0_writes (by decide)
  rw [wr, ← h]
  funext y
  show U1 m c main_arg1 _ = U1 m c main_arg1 _
  congr 1; funext ax; apply Fin.ext
  show 0 * S768x64.size ax + 1 * (y ax).val = (y ax).val
  omega

/-- What the routing kernel leaves in its first result. -/
theorem U2_v1_0 (c : Dev nD) : U2 m c main_v1_0 = k0_pay12 (F := Ideal) (xs m c) (wr m c) := by
  refine (Pipeline.afterRegion_arr (D0 m c) (U1 m c) winFacts0.arr_inj 2).trans ?_
  refine Dat.arrAt_eq_of_after_last _ 2 t0_0 (by decide +kernel) _ fun j => ?_
  rw [← stgX0_eq, ← stgW0_eq]
  blk_simp
  rfl
/-- What the routing kernel leaves in its second result. -/
theorem U2_v1_1 (c : Dev nD) : U2 m c main_v1_1 = k0_pay13 (F := Ideal) (xs m c) (wr m c) := by
  refine (Pipeline.afterRegion_arr (D0 m c) (U1 m c) winFacts0.arr_inj 3).trans ?_
  refine Dat.arrAt_eq_of_after_last _ 3 t0_0 (by decide +kernel) _ fun j => ?_
  rw [← stgX0_eq, ← stgW0_eq]
  blk_simp
  rfl
/-- What the routing kernel leaves in its third result. -/
theorem U2_v1_2 (c : Dev nD) : U2 m c main_v1_2 = slotA (F := Ideal) (xs m c) (wr m c) := by
  refine (Pipeline.afterRegion_arr (D0 m c) (U1 m c) winFacts0.arr_inj 4).trans ?_
  refine Dat.arrAt_eq_of_after_last _ 4 t0_0 (by decide +kernel) _ fun j => ?_
  rw [← stgX0_eq, ← stgW0_eq]
  blk_simp
  rfl
/-- What the routing kernel leaves in its fourth result. -/
theorem U2_v1_3 (c : Dev nD) : U2 m c main_v1_3 = slotB (F := Ideal) (xs m c) (wr m c) := by
  refine (Pipeline.afterRegion_arr (D0 m c) (U1 m c) winFacts0.arr_inj 5).trans ?_
  refine Dat.arrAt_eq_of_after_last _ 5 t0_0 (by decide +kernel) _ fun j => ?_
  rw [← stgX0_eq, ← stgW0_eq]
  blk_simp
  rfl
/-- What the routing kernel leaves in its fifth result. -/
theorem U2_v1_4 (c : Dev nD) : U2 m c main_v1_4 = cntI (F := Ideal) (xs m c) (wr m c) := by
  refine (Pipeline.afterRegion_arr (D0 m c) (U1 m c) winFacts0.arr_inj 6).trans ?_
  refine Dat.arrAt_eq_of_after_last _ 6 t0_0 (by decide +kernel) _ fun j => ?_
  rw [← stgX0_eq, ← stgW0_eq]
  blk_simp
  rfl
/-- What the routing kernel leaves in its sixth result. -/
theorem U2_v1_5 (c : Dev nD) : U2 m c main_v1_5 = baseI (F := Ideal) (xs m c) (wr m c) := by
  refine (Pipeline.afterRegion_arr (D0 m c) (U1 m c) winFacts0.arr_inj 7).trans ?_
  refine Dat.arrAt_eq_of_after_last _ 7 t0_0 (by decide +kernel) _ fun j => ?_
  rw [← stgX0_eq, ← stgW0_eq]
  blk_simp
  rfl

/-- A buffer no output window of the routing kernel is on keeps its contents. -/
theorem U2_keep (c : Dev nD) (r : Ref sig .tc) (h : ∀ w, Pipeline.arrRef spec0 w = r → (cfg0.win w).isOut = false) : U2 m c r = U1 m c r :=
  Pipeline.afterRegion_keeps (D0 m c) (U1 m c) winFacts0.arr_inj (fun _ => rfl) r h

/-! ## The buffers at the expert kernel's entry -/

theorem U3_keep (c : Dev nD) (r : Ref sig .tc) (h : r ∉ hostOps1_W) : U3 m c r = U2 m c r :=
  StableHlo.after_of_writes_sub hostOps1 _ hostOps1_writes h
theorem U1_keep (c : Dev nD) (r : Ref sig .tc) (h : r ∉ hostOps0_W) : U1 m c r = m ((c : Thread nD τ).loc r) :=
  StableHlo.after_of_writes_sub hostOps0 _ hostOps0_writes h

theorem U3_v0 (c : Dev nD) : U3 m c main_v0 = xs m c :=
  (U3_keep m c _ (by decide)).trans (U2_keep m c _ (by decide))
theorem U3_arg2 (c : Dev nD) : U3 m c main_arg2 = m ((c : Thread nD τ).loc main_arg2) :=
  (U3_keep m c _ (by decide)).trans ((U2_keep m c _ (by decide)).trans (U1_keep m c _ (by decide)))
theorem U3_arg3 (c : Dev nD) : U3 m c main_arg3 = m ((c : Thread nD τ).loc main_arg3) :=
  (U3_keep m c _ (by decide)).trans ((U2_keep m c _ (by decide)).trans (U1_keep m c _ (by decide)))
theorem U3_v1_0 (c : Dev nD) : U3 m c main_v1_0 = k0_pay12 (F := Ideal) (xs m c) (wr m c) := (U3_keep m c _ (by decide)).trans (U2_v1_0 m c)
theorem U3_v1_1 (c : Dev nD) : U3 m c main_v1_1 = k0_pay13 (F := Ideal) (xs m c) (wr m c) := (U3_keep m c _ (by decide)).trans (U2_v1_1 m c)
theorem U3_v1_2 (c : Dev nD) : U3 m c main_v1_2 = slotA (F := Ideal) (xs m c) (wr m c) := (U3_keep m c _ (by decide)).trans (U2_v1_2 m c)
theorem U3_v1_3 (c : Dev nD) : U3 m c main_v1_3 = slotB (F := Ideal) (xs m c) (wr m c) := (U3_keep m c _ (by decide)).trans (U2_v1_3 m c)

/-- The rows' first slots, along a row. -/
def p0s (c : Dev nD) : IVec S1x2048 32 := U3 m c main_v2
/-- The rows' second slots, along a row. -/
def p1s (c : Dev nD) : IVec S1x2048 32 := U3 m c main_v3
/-- The experts' first slots. -/
def pos (c : Dev nD) : IVec S64 32 := U3 m c main_v4
/-- The experts' counts. -/
def cns (c : Dev nD) : IVec S64 32 := U3 m c main_v5

theorem p0s_at (c : Dev nD) (t : Fin 2048) : p0s m c (ix2 0 t) = BitVec.ofNat 32 (slA (chA (xs m c) (wr m c)) (chB (xs m c) (wr m c)) t.val) := by
  have h : p0s m c = shapeCast S1x2048 (slotA (F := Ideal) (xs m c) (wr m c)) shapeCasts_S2048x1_S1x2048 := by
    rw [← U2_v1_2]
    show StableHlo.after hostOps1 (U2 m c) (Proc.devRef .tc main_v2) = _
    entry_read
    rfl
  rw [← slotA_at, h]
  pointwise
theorem p1s_at (c : Dev nD) (t : Fin 2048) : p1s m c (ix2 0 t) = BitVec.ofNat 32 (slB (chA (xs m c) (wr m c)) (chB (xs m c) (wr m c)) t.val) := by
  have h : p1s m c = shapeCast S1x2048 (slotB (F := Ideal) (xs m c) (wr m c)) shapeCasts_S2048x1_S1x2048 := by
    rw [← U2_v1_3]
    show StableHlo.after hostOps1 (U2 m c) (Proc.devRef .tc main_v3) = _
    entry_read
    rfl
  rw [← slotB_at, h]
  pointwise
theorem pos_at (c : Dev nD) (e : Fin 64) : pos m c (ix1 e) = BitVec.ofNat 32 (base (chA (xs m c) (wr m c)) (chB (xs m c) (wr m c)) e.val) := by
  have h : pos m c = shapeCast S64 (baseI (F := Ideal) (xs m c) (wr m c)) shapeCasts_S1x64_S64 := by
    rw [← U2_v1_5]
    show StableHlo.after hostOps1 (U2 m c) (Proc.devRef .tc main_v4) = _
    entry_read
    rfl
  rw [← baseI_at, h]
  pointwise
theorem cns_at (c : Dev nD) (e : Fin 64) : cns m c (ix1 e) = BitVec.ofNat 32 (cnt (chA (xs m c) (wr m c)) (chB (xs m c) (wr m c)) e.val) := by
  have h : cns m c = shapeCast S64 (cntI (F := Ideal) (xs m c) (wr m c)) shapeCasts_S1x64_S64 := by
    rw [← U2_v1_4]
    show StableHlo.after hostOps1 (U2 m c) (Proc.devRef .tc main_v5) = _
    entry_read
    rfl
  rw [← cntI_at, h]
  pointwise

theorem tabPo_eq (c : Dev nD) : tabPo (F := Ideal) (adm m 1) c = pos m c := by
  obtain rfl : c = 0 := Subsingleton.elim _ _
  rfl
theorem tabCn_eq (c : Dev nD) : tabCn (F := Ideal) (adm m 1) c = cns m c := by
  obtain rfl : c = 0 := Subsingleton.elim _ _
  rfl

/-- The tables' words pass the expert kernel's checks. -/
theorem checks (c : Dev nD) : Checks (F := Ideal) (adm m 1) c := fun t ht => by
  rw [tabPo_eq, tabCn_eq]
  have hp : ∀ e : Fin 64, pos m c (ValueIdx.ix1 e) = _ := pos_at m c
  have hc : ∀ e : Fin 64, cns m c (ValueIdx.ix1 e) = _ := cns_at m c
  simp only [word]
  rw [hp, hc, hp, hc]
  exact ⟨chk1_of _ _ _ (dvd_base _ _ _) (cnt_le _ _ _) (chunks_end _ _ _), chk2_of _ _ _ (dvd_base _ _ _) (cnt_le _ _ _) (chunks_end _ _ _)⟩

end Cert.Moe

end
-- ==== Proof.Run.lean ====
module

public import proofs.«01_k».proof.Proof.Reads

@[expose] public section

set_option maxRecDepth 16384

noncomputable section

namespace Cert.Moe

open Cert.KernelIdeal Cert.KernelIdeal.Gen
open Idealize.ShloMosaic Idealize.ShloMosaic.TcCoe

open Idealize.SL.Sem
open Idealize.ShloMosaic.Pipeline (Dat)

variable (m : (ℓ : Loc nD τ sig) → Buf (Elt Ideal) ℓ)

/-- The last four points of the grid write the result's blocks, each from the same rows of the routing results. -/
theorem lastPoints : ∀ t : Fin grid1.N, (cc1_transform_9 (grid1.coords t) = ![t.val - 32, 0] ∧ cc1_transform_5 (grid1.coords t) = ![t.val - 32, 0]
    ∧ cc1_transform_6 (grid1.coords t) = ![t.val - 32, 0] ∧ cc1_transform_7 (grid1.coords t) = ![t.val - 32, 0] ∧ cc1_transform_8 (grid1.coords t) = ![t.val - 32, 0]) ∧ t.val < 36 := by
  decide +kernel

/-- Tables of zeros. -/
def zeros : (pcfg1 (F := Ideal)).Adm := ⟨fun k => match k with | ⟨0, _⟩ => (fun _ => (0#32 : BitVec 32)) | ⟨1, _⟩ => (fun _ => (0#32 : BitVec 32)), trivial⟩

/-- The result's blocks cover it. -/
theorem covers9 (a : (pcfg1 (F := Ideal)).Adm) : ((cfg1 a).win 9).Covers :=
  (by decide +kernel : ((cfg1 zeros).win 9).Covers)

/-- The slot table after all the experts. -/
theorem slots_end (c : Dev nD) : slots (F := Ideal) (fun c b => U3 m c b) (adm m 1) c 64
    = table (F := Ideal) (pos m c) (cns m c) (p0s m c) (p1s m c) (xs m c) (m ((c : Thread nD τ).loc main_arg2)) (m ((c : Thread nD τ).loc main_arg3)) 64 := by
  unfold slots
  rw [tabPo_eq, tabCn_eq, ← U3_v0 m c, ← U3_arg2 m c, ← U3_arg3 m c]
  rfl

/-- An entry of a block of 512 rows at a last point stands at the row's place. -/
theorem place (f : Fin 2 → ℕ) (t : ℕ) (hf : f = ![t - 32, 0]) (r : Fin 512) (i : Fin 2048) (h : i.val = 512 * (t - 32) + r.val) (z : S2048x1.Idx)
    (hz : ∀ ax, (z ax).val = f ax * S512x1.size ax + 1 * ((ix2 r (0 : Fin 1)) ax).val) : z = ix2 i 0 := by
  funext ax; apply Fin.ext
  rw [hz, hf]
  match ax with
  | ⟨0, _⟩ => show (t - 32) * 512 + 1 * r.val = i.val; omega
  | ⟨1, _⟩ => rfl

/-- What the expert kernel leaves in its result. -/
theorem U4_v6 (c : Dev nD) : U4 m c main_v6
    = fun y : S2048x768.Idx => outAt (xs m c) (wr m c) (m ((c : Thread nD τ).loc main_arg2)) (m ((c : Thread nD τ).loc main_arg3)) (y 0) (y 1) := by
  refine (Pipeline.afterRegion_arr (D1 m c) (U3 m c) winFacts1.arr_inj 9).trans ?_
  refine Dat.arrAt_eq_of_covers _ 9 _ (covers9 _) fun t hf y => ?_
  have ht : 32 ≤ t.val := not_lt.mp fun h => by rw [flush9 (adm m 1) t h] at hf; exact Bool.noConfusion hf
  blk_simp
  suffices h : ∀ (y : S512x768.Idx) (z : S2048x768.Idx), (z 0).val = 512 * (t.val - 32) + (y 0).val → z 1 = (y 1 : Fin 768) →
      k1_pay4 (F := Ideal) (stgQ0 (fun c b => U3 m c b) (adm m 1) c t) (stgG0 (fun c b => U3 m c b) (adm m 1) c t) (stgQ1 (fun c b => U3 m c b) (adm m 1) c t)
        (stgG1 (fun c b => U3 m c b) (adm m 1) c t) (slots (fun c b => U3 m c b) (adm m 1) c (2 * min t.val 32)) y
        = outAt (xs m c) (wr m c) (m ((c : Thread nD τ).loc main_arg2)) (m ((c : Thread nD τ).loc main_arg3)) (z 0) (z 1) by
    refine h y _ ?_ (Fin.ext ?_)
    · show cc1_transform_9 (grid1.coords t) 0 * 512 + 1 * _ = _
      rw [(lastPoints t).1.1]
      show (t.val - 32) * 512 + 1 * _ = _
      rw [one_mul, mul_comm]
    · show cc1_transform_9 (grid1.coords t) 1 * 768 + 1 * _ = _
      rw [(lastPoints t).1.1]
      show 0 * 768 + 1 * _ = _
      rw [one_mul, zero_mul, zero_add]
  intro y z hi hd
  rw [min_eq_right ht, slots_end, hd]
  have hy : y = ix2 (y 0 : Fin 512) (y 1 : Fin 768) := by
    funext ax
    match ax with
    | ⟨0, _⟩ => rfl
    | ⟨1, _⟩ => rfl
  refine (congrArg _ hy).trans (block_at (xs m c) (wr m c) _ _ _ _ _ _ (pos_at m c) (cns_at m c) (p0s_at m c) (p1s_at m c) _ _ _ _ (y 0) _ (y 1) ?_ ?_ ?_ ?_)
  · exact (congrArg (U3 m c main_v1_2) (place _ t.val (lastPoints t).1.2.1 _ _ hi _ fun _ => rfl)).trans (congrFun (U3_v1_2 m c) _)
  · exact (congrArg (U3 m c main_v1_3) (place _ t.val (lastPoints t).1.2.2.1 _ _ hi _ fun _ => rfl)).trans (congrFun (U3_v1_3 m c) _)
  · exact (congrArg (U3 m c main_v1_0) (place _ t.val (lastPoints t).1.2.2.2.1 _ _ hi _ fun _ => rfl)).trans (congrFun (U3_v1_0 m c) _)
  · exact (congrArg (U3 m c main_v1_1) (place _ t.val (lastPoints t).1.2.2.2.2 _ _ hi _ fun _ => rfl)).trans (congrFun (U3_v1_1 m c) _)

theorem U4_keep (c : Dev nD) (r : Ref sig .tc) (h : ∀ w, Pipeline.arrRef spec1 w = r → (spec1 w).isOut = false) : U4 m c r = U3 m c r :=
  Pipeline.afterRegion_keeps (D1 m c) (U3 m c) winFacts1.arr_inj (fun _ => rfl) r h
/-- A buffer nothing writes ends as launched. -/
theorem U5_keep (c : Dev nD) (r : Ref sig .tc) (h0 : r ∉ hostOps0_W) (h1 : r ∉ hostOps1_W) (h2 : r ∉ hostOps2_W)
    (h3 : ∀ w, Pipeline.arrRef spec0 w = r → (cfg0.win w).isOut = false) (h4 : ∀ w, Pipeline.arrRef spec1 w = r → (spec1 w).isOut = false) :
    U5 m c r = m ((c : Thread nD τ).loc r) :=
  (StableHlo.after_of_writes_sub hostOps2 _ hostOps2_writes h2).trans ((U4_keep m c r h4).trans ((U3_keep m c r h1).trans ((U2_keep m c r h3).trans (U1_keep m c r h0))))

/-- The kernel's result. -/
def result (c : Dev nD) : FVec Ideal S1x2048x768 .f32 := U5 m c main_v7

/-- The kernel's result at a row and column. -/
theorem result_at (c : Dev nD) (i : Fin 2048) (d : Fin 768) :
    result m c (ix3 0 i d) = outAt (xs m c) (wr m c) (m ((c : Thread nD τ).loc main_arg2)) (m ((c : Thread nD τ).loc main_arg3)) i d := by
  have h : result m c = shapeCast S1x2048x768 (show FVec Ideal S2048x768 .f32 from U4 m c main_v6) shapeCasts_S2048x768_S1x2048x768 := by
    unfold result
    show StableHlo.after hostOps2 (U4 m c) (Proc.devRef .tc main_v7) = _
    entry_read
    rfl
  rw [h, U4_v6]
  pointwise

/-- The routing kernel's rows are the argument's. -/
theorem xs_eq (c : Dev nD) : xs m c = shapeCast S2048x768 (show FVec Ideal S1x2048x768 .f32 from m ((c : Thread nD τ).loc main_arg0)) shapeCasts_S1x2048x768_S2048x768 := by
  unfold xs
  show StableHlo.after hostOps0 (V0 m c) (Proc.devRef .tc main_v0) = _
  entry_read
  rfl

/-- The program ends with the kernel's result, its arguments as launched and every semaphore at zero. -/
theorem run (ρ : Dev nD → PrngReg) :
    θ_run (defs (F := Ideal)) (onTc (τ := τ) (main (F := Ideal))) ⟨m, fun _ => 0, ρ⟩ (fun r =>
      (∀ c : Dev nD, r.2.mem ((c : Thread nD τ).loc main_v7) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) := by
  refine θ_run_mono (runs m ρ (checks m)) ?_
  rintro r ⟨h, hs⟩
  have hm : ∀ (b : Ref sig .tc) (c : Dev nD), (Proc.devRef .tc b : DevRef τ sig) ∈ Pipeline.ucRefs τ sig → r.2.mem ((c : Thread nD τ).loc b) = U5 m c b := fun b c hb => h c _ hb
  refine ⟨fun c => ⟨hm main_v7 c ?_, (hm main_arg0 c ?_).trans (U5_keep m c _ ?_ ?_ ?_ ?_ ?_), (hm main_arg1 c ?_).trans (U5_keep m c _ ?_ ?_ ?_ ?_ ?_),
    (hm main_arg2 c ?_).trans (U5_keep m c _ ?_ ?_ ?_ ?_ ?_), (hm main_arg3 c ?_).trans (U5_keep m c _ ?_ ?_ ?_ ?_ ?_)⟩, hs⟩
  all_goals first
    | decide
    | exact Finset.mem_filter.mpr ⟨StableHlo.devRef_mem_tcRefs _, by decide⟩
    | skip

end Cert.Moe

end
-- ==== Proof.RefVal.lean ====
module

public import proofs.«01_k».proof.Proof.Gen.ReferenceIdeal
public import proofs.«01_k».proof.Proof.Choice
public import proofs.«01_k».proof.Proof.Words
public import Idealize.ShloMosaic.Lib.Pointwise

@[expose] public section

set_option maxRecDepth 16384

noncomputable section

namespace Cert.Moe

open Cert.ReferenceIdeal Cert.ReferenceIdeal.Gen
open Idealize.ShloMosaic Idealize.ShloMosaic.TcCoe

/-! # The reference's arrays, over arguments of its own shapes -/

/-- The logits. -/
def logits (X : FVec Ideal S2048x768 .f32) (W : FVec Ideal S768x64 .f32) : FVec Ideal S2048x64 .f32 :=
  Host.dotGeneral dot_S2048x768_S768x64_S2048x64_1_0_0_1_n_n none X W
/-- The exponentials of the logits below their row's greatest. -/
def exps (X : FVec Ideal S2048x768 .f32) (W : FVec Ideal S768x64 .f32) : FVec Ideal S2048x64 .f32 :=
  Host.exp (subf (logits X W)
    (broadcastInDim S2048x64 ![0, 1] bcast_S2048x1_S2048x64_0_1 (broadcastInDim S2048x1 ![0] bcast_S2048_S2048x1_0
      (maximumf (broadcastInDim S2048 ![] bcast_S_S2048 (constant S_ .f32 4286578688#32))
        (Host.reduce FloatOps.maximumf (logits X W) (constant S_ .f32 4286578688#32) reducesTo_S2048x64_S2048_d1 h_S_)))))
/-- The probabilities. -/
def probs (X : FVec Ideal S2048x768 .f32) (W : FVec Ideal S768x64 .f32) : FVec Ideal S2048x64 .f32 :=
  Host.divf (exps X W)
    (broadcastInDim S2048x64 ![0, 1] bcast_S2048x1_S2048x64_0_1 (broadcastInDim S2048x1 ![0] bcast_S2048_S2048x1_0
      (Host.reduceAdd (exps X W) (constant S_ .f32 0#32) reducesTo_S2048x64_S2048_d1 h_S_)))
/-- The two greatest probabilities of each row. -/
def topv (P : FVec Ideal S2048x64 .f32) : FVec Ideal S2048x2 .f32 :=
  (Host.topK S2048x2 1 (FloatOps.cmpfTotal .gt) P sliceFits_S2048x64_S2048x2).1
/-- Their experts' numbers. -/
def topi (P : FVec Ideal S2048x64 .f32) : IVec S2048x2 32 :=
  (Host.topK S2048x2 1 (FloatOps.cmpfTotal .gt) P sliceFits_S2048x64_S2048x2).2
/-- Their weights. -/
def wnorm (V : FVec Ideal S2048x2 .f32) : FVec Ideal S2048x2 .f32 :=
  Host.divf V (broadcastInDim S2048x2 ![0, 1] bcast_S2048x1_S2048x2_0_1 (broadcastInDim S2048x1 ![0] bcast_S2048_S2048x1_0
    (Host.reduceAdd V (constant S_ .f32 0#32) reducesTo_S2048x2_S2048_d1 h_S_)))
/-- Each row's weight for each expert. -/
def combine (V : FVec Ideal S2048x2 .f32) (I : IVec S2048x2 32) : FVec Ideal S2048x64 .f32 :=
  Host.reduceAdd
    (mulf
      (uitofp .f32 (cmpi .eq
        (broadcastInDim S2048x2x64 ![0, 1, 2] bcast_S2048x2x1_S2048x2x64_0_1_2 (broadcastInDim S2048x2x1 ![0, 1] bcast_S2048x2_S2048x2x1_0_1 I))
        (broadcastInDim S2048x2x64 ![0, 1, 2] bcast_S1x1x64_S2048x2x64_0_1_2 (iotaInDim S1x1x64 32 2))))
      (broadcastInDim S2048x2x64 ![0, 1, 2] bcast_S2048x2x1_S2048x2x64_0_1_2 (broadcastInDim S2048x2x1 ![0, 1] bcast_S2048x2_S2048x2x1_0_1 (wnorm V))))
    (constant S_ .f32 0#32) reducesTo_S2048x2x64_S2048x64_d1 h_S_
/-- The sum over the experts of the weighted layers. -/
def mixed (C : FVec Ideal S2048x64 .f32) (X : FVec Ideal S2048x768 .f32) (A : FVec Ideal S64x768x512 .f32) (B : FVec Ideal S64x512x768 .f32) :
    FVec Ideal S2048x768 .f32 :=
  Host.reduceAdd
    (mulf
      (broadcastInDim S64x2048x768 ![0, 1, 2] bcast_S64x2048x1_S64x2048x768_0_1_2
        (broadcastInDim S64x2048x1 ![0, 1] bcast_S64x2048_S64x2048x1_0_1 (transpose S64x2048 [1, 0] C transposes_S2048x64_S64x2048_1_0)))
      (Host.dotGeneral dot_S64x2048x512_S64x512x768_S64x2048x768_2_1_1_2_0_0 none
        (maximumf
          (transpose S64x2048x512 [0, 2, 1] (Host.dotGeneral dot_S64x768x512_S2048x768_S64x512x2048_1_1_02_0_n_n none A X) transposes_S64x512x2048_S64x2048x512_0_2_1)
          (broadcastInDim S64x2048x512 ![] bcast_S_S64x2048x512 (constant S_ .f32 0#32)))
        B))
    (constant S_ .f32 0#32) reducesTo_S64x2048x768_S2048x768_d0 h_S_
/-- The reference's result before its last reshape. -/
def refOut (X : FVec Ideal S2048x768 .f32) (W : FVec Ideal S768x64 .f32) (A : FVec Ideal S64x768x512 .f32) (B : FVec Ideal S64x512x768 .f32) :
    FVec Ideal S2048x768 .f32 :=
  mixed (combine (topv (probs X W)) (topi (probs X W))) X A B

/-- An exponential over the extended reals is not negative. -/
theorem exp_nonneg (x : EReal) : 0 ≤ Ideal.exp x := by
  induction x with
  | bot => exact le_refl (0 : EReal)
  | top => exact le_top
  | coe r => exact EReal.coe_nonneg.mpr (Real.exp_pos r).le

/-- Where the stable sort of a row puts its elements. -/
def place2 (P : FVec Ideal S2048x64 .f32) (i : Fin 2048) (k : Fin 2) : Fin 64 :=
  sortedFrom (fun a b : Fin 64 => decide (P (ix2 i b) < P (ix2 i a))) (k.castLE (by decide))

/-- An index moved along the row. -/
theorem along_row (i : Fin 2048) (k e : Fin 64) : (ix2 i k : S2048x64.Idx).along 1 e = ix2 i e := by
  funext ax; fin_cases ax <;> rfl

/-- The order of the sort. -/
theorem gt_word (a b : EReal) : (FloatOps.cmpfTotal (F := Ideal) (φ := .f32) .gt a b == 1#1) = decide (b < a) := by
  show (BitVec.ofBool (decide (b < a)) == 1#1) = decide (b < a)
  cases decide (b < a) <;> rfl

/-- The two greatest are read at those places. -/
theorem topv_at (P : FVec Ideal S2048x64 .f32) (i : Fin 2048) (k : Fin 2) : topv P (ix2 i k) = P (ix2 i (place2 P i k)) := by
  pointwise [topv, Host.topK, Host.sort2]
  simp only [along_row, gt_word]
  rfl

/-- Their experts' numbers are those places. -/
theorem topi_at (P : FVec Ideal S2048x64 .f32) (i : Fin 2048) (k : Fin 2) : topi P (ix2 i k) = BitVec.ofNat 32 (place2 P i k).val := by
  pointwise [topi, Host.topK, Host.sort2]
  simp only [along_row, gt_word]
  rfl

/-- A probability is its exponential over the row's sum. -/
theorem probs_at (X : FVec Ideal S2048x768 .f32) (W : FVec Ideal S768x64 .f32) (i : Fin 2048) (e : Fin 64) :
    probs X W (ix2 i e) = Ideal.div (exps X W (ix2 i e)) (∑ x : Fin 64, exps X W (ix2 i x)) := by
  pointwise [probs]

/-- An exponential is not negative. -/
theorem exps_nonneg (X : FVec Ideal S2048x768 .f32) (W : FVec Ideal S768x64 .f32) (i : Fin 2048) (e : Fin 64) : 0 ≤ exps X W (ix2 i e) := by
  pointwise [exps]
  exact exp_nonneg _

/-- Each row has no probability at the bottom, or all of them. -/
theorem probs_cases (X : FVec Ideal S2048x768 .f32) (W : FVec Ideal S768x64 .f32) (i : Fin 2048) :
    (∀ e, probs X W (ix2 i e) ≠ ⊥) ∨ ∀ e, probs X W (ix2 i e) = ⊥ := by
  have h0 : 0 ≤ ∑ x : Fin 64, exps X W (ix2 i x) := Finset.sum_nonneg fun x _ => exps_nonneg X W i x
  by_cases hs : ∑ x : Fin 64, exps X W (ix2 i x) = 0
  · refine Or.inr fun e => ?_
    have he : exps X W (ix2 i e) = 0 := le_antisymm
      ((Finset.single_le_sum (f := fun x : Fin 64 => exps X W (ix2 i x)) (fun x _ => exps_nonneg X W i x) (Finset.mem_univ e)).trans hs.le)
      (exps_nonneg X W i e)
    rw [probs_at, hs, he, Ideal.div, if_pos rfl, if_neg (lt_irrefl _)]
  · refine Or.inl fun e => ?_
    rw [probs_at, Ideal.div, if_neg hs]
    exact ne_bot_of_le_ne_bot EReal.zero_ne_bot (EReal.mul_nonneg (exps_nonneg X W i e) (EReal.inv_nonneg_of_nonneg h0))

/-- A weight is its probability over the two's sum. -/
theorem wnorm_at (V : FVec Ideal S2048x2 .f32) (i : Fin 2048) (k : Fin 2) :
    wnorm V (ix2 i k) = Ideal.div (V (ix2 i k)) (V (ix2 i 0) + V (ix2 i 1)) := by
  pointwise [wnorm]
  rw [Fin.sum_univ_two]

/-- A row's weight for an expert adds the weights of the choices that fell on it. -/
theorem combine_row (V : FVec Ideal S2048x2 .f32) (I : IVec S2048x2 32) (i : Fin 2048) (c : Fin 2 → Fin 64)
    (hI : ∀ k, I (ix2 i k) = BitVec.ofNat 32 (c k).val) (e : Fin 64) :
    combine V I (ix2 i e) = (if c 0 = e then wnorm V (ix2 i 0) else 0) + if c 1 = e then wnorm V (ix2 i 1) else 0 := by
  have hw : ∀ (a : Fin 64), FloatOps.uitofp (F := Ideal) FTy.f32 (IntOp.cmpi CmpIPredicate.eq (BitVec.ofNat 32 a.val) (BitVec.ofNat 32 e.val))
      = if a = e then (1 : EReal) else 0 := fun a => by
    rw [eq_word (by omega) (by omega)]
    show (((BitVec.ofBool (decide (a.val = e.val))).toNat : ℝ) : EReal) = _
    by_cases h : a = e
    · rw [if_pos h, h]; simp
    · rw [if_neg h, show decide (a.val = e.val) = false from decide_eq_false fun he => h (Fin.ext he)]; simp
  pointwise [combine]
  rw [Fin.sum_univ_two, hI, hI, hw, hw, ite_mul, ite_mul, one_mul, one_mul, zero_mul, zero_mul]

/-- Each element is the weighted sum over the experts. -/
theorem mixed_at (C : FVec Ideal S2048x64 .f32) (X : FVec Ideal S2048x768 .f32) (A : FVec Ideal S64x768x512 .f32) (B : FVec Ideal S64x512x768 .f32)
    (i : Fin 2048) (d : Fin 768) :
    mixed C X A B (ix2 i d) = ∑ e : Fin 64, C (ix2 i e)
      * ∑ f : Fin 512, max (∑ c : Fin 768, A (ix3 e c f) * X (ix2 i c)) 0 * B (ix3 e f d) := by
  pointwise [mixed]

/-- The sum over the experts where the two choices differ: the two chosen terms. -/
theorem sum_two (a b : Fin 64) (h : a ≠ b) (u v : EReal) (y : Fin 64 → EReal) :
    ∑ e : Fin 64, ((if a = e then u else 0) + if b = e then v else 0) * y e = u * y a + v * y b := by
  have hs : ∀ e : Fin 64, ((if a = e then u else 0) + if b = e then v else 0) * y e = (if a = e then u * y e else 0) + if b = e then v * y e else 0 := fun e => by
    by_cases ha : a = e
    · have hb : b ≠ e := fun hb => h (ha.trans hb.symm)
      rw [if_pos ha, if_neg hb, if_pos ha, if_neg hb, add_zero, add_zero]
    · rw [if_neg ha, if_neg ha, zero_add, zero_add, ite_mul, zero_mul]
  rw [Finset.sum_congr rfl fun e _ => hs e, Finset.sum_add_distrib, Finset.sum_ite_eq, Finset.sum_ite_eq, if_pos (Finset.mem_univ a), if_pos (Finset.mem_univ b)]

end Cert.Moe

end
-- ==== Proof.Value.lean ====
module

public import proofs.«01_k».proof.Proof.Run
public import proofs.«01_k».proof.Proof.RefVal

@[expose] public section

set_option maxRecDepth 16384

noncomputable section

namespace Cert.Moe

open Cert.KernelIdeal Cert.KernelIdeal.Gen
open Idealize.ShloMosaic Idealize.ShloMosaic.TcCoe

/-! # The reference's result is the kernel's -/

variable (x : FVec Ideal S2048x768 .f32) (w : FVec Ideal S768x64 .f32) (w1 : FVec Ideal S64x768x512 .f32) (w2 : FVec Ideal S64x512x768 .f32)

/-- The reference's probabilities are the kernel's. -/
theorem probs_prob (i : Fin 2048) (e : Fin 64) : probs x w (ix2 i e) = prob x w i e := by
  rw [prob]
  pointwise [k0_pay5, probs, exps, logits]
  rw [ofBits_neg_inf]
  simp only [bot_sup_eq, max_bot_left]

/-- The first choice's weight. -/
theorem pay12_at (i : Fin 2048) : k0_pay12 (F := Ideal) x w (ix2 i 0)
    = Ideal.div (prob x w i (first (prob x w i))) (prob x w i (first (prob x w i)) + rest (prob x w i) (second (prob x w i))) := by
  pointwise [k0_pay12, k0_pay11]
  rw [pay6_at, pay9_at]

/-- The second choice's weight. -/
theorem pay13_at (i : Fin 2048) : k0_pay13 (F := Ideal) x w (ix2 i 0)
    = Ideal.div (rest (prob x w i) (second (prob x w i))) (prob x w i (first (prob x w i)) + rest (prob x w i) (second (prob x w i))) := by
  pointwise [k0_pay13, k0_pay11]
  rw [pay6_at, pay9_at]

/-- The bottom over the bottom is nothing. -/
theorem div_bot : Ideal.div ⊥ ⊥ = 0 := by
  rw [Ideal.div, if_neg EReal.bot_ne_zero, EReal.inv_bot, mul_zero]

/-- The reference's expert network is the kernel's, its products turned round. -/
theorem mlp_eq (e : Fin 64) (i : Fin 2048) (d : Fin 768) :
    ∑ f : Fin 512, max (∑ c : Fin 768, w1 (ix3 e c f) * x (ix2 i c)) 0 * w2 (ix3 e f d) = mlp w1 w2 e (fun c => x (ix2 i c)) d := by
  rw [mlp]
  refine Finset.sum_congr rfl fun f _ => ?_
  rw [Finset.sum_congr rfl fun c _ => mul_comm (w1 (ix3 e c f)) (x (ix2 i c))]

/-- The reference's element is the sum of the two choices' networks, weighted. -/
theorem refOut_two (i : Fin 2048) (d : Fin 768) : refOut x w w1 w2 (ix2 i d)
    = ∑ e : Fin 64, ((if place2 (probs x w) i 0 = e then wnorm (topv (probs x w)) (ix2 i 0) else 0)
        + if place2 (probs x w) i 1 = e then wnorm (topv (probs x w)) (ix2 i 1) else 0) * mlp w1 w2 e (fun c => x (ix2 i c)) d := by
  rw [refOut, mixed_at]
  refine Finset.sum_congr rfl fun e _ => ?_
  rw [combine_row _ _ i (place2 (probs x w) i) (fun k => topi_at (probs x w) i k) e]
  exact congrArg _ (mlp_eq x w1 w2 e i d)

/-- Where no probability is the bottom, the sort's first two places are the two choices. -/
theorem place2_choices (i : Fin 2048) (h : ∀ e, prob x w i e ≠ ⊥) (k : Fin 2) :
    place2 (probs x w) i k = ![first (prob x w i), second (prob x w i)] k := by
  rw [place2]
  simp only [probs_prob]
  exact sortedFrom_choices (prob x w i) h k

/-- At a row and column the reference's result is the kernel's. -/
theorem refOut_at (i : Fin 2048) (d : Fin 768) : refOut x w w1 w2 (ix2 i d) = outAt x w w1 w2 i d := by
  rw [refOut_two, outAt, pay12_at, pay13_at]
  simp only [wnorm_at, topv_at, probs_prob]
  rcases probs_cases x w i with h | h
  · simp only [probs_prob] at h
    have hne := second_ne _ h
    have hr : rest (prob x w i) (second (prob x w i)) = prob x w i (second (prob x w i)) := by rw [rest, if_neg hne]
    have p0 : place2 (probs x w) i 0 = first (prob x w i) := place2_choices x w i h 0
    have p1 : place2 (probs x w) i 1 = second (prob x w i) := place2_choices x w i h 1
    rw [p0, p1, hr, sum_two _ _ hne.symm]
  · simp only [probs_prob] at h
    have hr : rest (prob x w i) (second (prob x w i)) = ⊥ := by rw [rest, h]; split <;> rfl
    simp only [hr, h, EReal.bot_add, div_bot, zero_mul, ite_self, add_zero, Finset.sum_const_zero]

variable (m : (ℓ : Loc nD τ sig) → Buf (Elt Ideal) ℓ)

/-- The reference's result over the kernel's arguments is the kernel's result. -/
theorem value (c : Dev nD) :
    shapeCast S1x2048x768
      (refOut (shapeCast S2048x768 (show FVec Ideal S1x2048x768 .f32 from m ((c : Thread nD τ).loc main_arg0)) shapeCasts_S1x2048x768_S2048x768)
        (m ((c : Thread nD τ).loc main_arg1)) (m ((c : Thread nD τ).loc main_arg2)) (m ((c : Thread nD τ).loc main_arg3)))
      shapeCasts_S2048x768_S1x2048x768 = result m c := by
  rw [← xs_eq m c]
  funext j
  obtain ⟨a, i, d, rfl⟩ : ∃ (a : Fin 1) (i : Fin 2048) (d : Fin 768), j = ix3 a i d := ⟨j 0, j 1, j 2, eq_ix3 j⟩
  obtain rfl : a = 0 := Subsingleton.elim _ _
  rw [result_at]
  refine Eq.trans ?_ (refOut_at (xs m c) (wr m c) (m ((c : Thread nD τ).loc main_arg2)) (m ((c : Thread nD τ).loc main_arg3)) i d)
  pointwise
  rfl

end Cert.Moe

end
-- ==== Proof.lean ====
module

public import proofs.«01_k».proof.Defs
public import proofs.«01_k».proof.Proof.Gen.ReferenceIdeal
public import proofs.«01_k».proof.Proof.Value
public import Idealize.ShloMosaic.Lib.Claim

@[expose] public section

set_option maxRecDepth 16384

noncomputable section

namespace Cert.Proof

open Idealize.ShloMosaic Idealize.SL.Sem

/-- The kernel over the extended reals ends, its arguments as launched and its semaphores at zero. -/
theorem frame_kernel : Cert.quiescent_KernelIdeal := by
  intro m g _
  exact θ_run_mono (Cert.Moe.run m g) fun r h => ⟨fun c => (h.1 c).2, h.2⟩

/-- The reference over the extended reals ends, its arguments as launched and its semaphores at zero. -/
theorem frame_reference : Cert.quiescent_ReferenceIdeal := by
  intro m g _
  hlo_run
  · exact fun _ => ⟨trivial, trivial, trivial, trivial⟩
  · exact sem_eq_zero_of_no_sems (by decide) r.2

/-- Kernel and reference end with equal results over the extended reals. -/
theorem algebraic : Cert.algebraic_KernelIdeal_ReferenceIdeal := by
  pair_intro
  · run_from Cert.Moe.run m g
  · hlo_run
    simp -implicitDefEqProofs only [StableHlo.TRef.toBuf, StableHlo.TRef.ofBuf, cast_cast, cast_eq]
    have h := Cert.Moe.value m c
    unfold Cert.Moe.refOut Cert.Moe.mixed Cert.Moe.combine Cert.Moe.wnorm Cert.Moe.topv Cert.Moe.topi Cert.Moe.probs Cert.Moe.exps Cert.Moe.logits at h
    exact h

theorem claim : Cert.Claim := ⟨Cert.KernelIdeal.Gen.facts, Cert.ReferenceIdeal.Gen.facts, frame_kernel, frame_reference, algebraic⟩

end Cert.Proof

end
